-- ==== Defs.lean ====
def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsReferenceIdeal (m : (ℓ : Loc Cert.StatsReferenceIdeal.nD Cert.StatsReferenceIdeal.τ Cert.StatsReferenceIdeal.sig) → Buf (Elt Ideal) ℓ) : Prop :=
  True

def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradReferenceIdeal (m : (ℓ : Loc Cert.DgradReferenceIdeal.nD Cert.DgradReferenceIdeal.τ Cert.DgradReferenceIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2))
      ∧ r.2.sem = fun _ => 0)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2)
      ∧ r.2.mem ((c.tc : Thread Cert.Dgrad.nD Cert.Dgrad.τ).loc Cert.Dgrad.main_arg3) = m ((c.tc : Thread Cert.Dgrad.nD Cert.Dgrad.τ).loc Cert.Dgrad.main_arg3)
      ∧ r.2.mem ((c.tc : Thread Cert.Dgrad.nD Cert.Dgrad.τ).loc Cert.Dgrad.main_arg4) = m ((c.tc : Thread Cert.Dgrad.nD Cert.Dgrad.τ).loc Cert.Dgrad.main_arg4)
      ∧ r.2.mem ((c.tc : Thread Cert.Dgrad.nD Cert.Dgrad.τ).loc Cert.Dgrad.main_arg5) = m ((c.tc : Thread Cert.Dgrad.nD Cert.Dgrad.τ).loc Cert.Dgrad.main_arg5)
      ∧ r.2.mem ((c.tc : Thread Cert.Dgrad.nD Cert.Dgrad.τ).loc Cert.Dgrad.main_arg6) = m ((c.tc : Thread Cert.Dgrad.nD Cert.Dgrad.τ).loc Cert.Dgrad.main_arg6)
      ∧ r.2.mem ((c.tc : Thread Cert.Dgrad.nD Cert.Dgrad.τ).loc Cert.Dgrad.main_arg7) = m ((c.tc : Thread Cert.Dgrad.nD Cert.Dgrad.τ).loc Cert.Dgrad.main_arg7))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
      ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
      ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4)
      ∧ r.2.mem ((c.tc : Thread Cert.DgradIdeal.nD Cert.DgradIdeal.τ).loc Cert.DgradIdeal.main_arg5) = m ((c.tc : Thread Cert.DgradIdeal.nD Cert.DgradIdeal.τ).loc Cert.DgradIdeal.main_arg5)
      ∧ r.2.mem ((c.tc : Thread Cert.DgradIdeal.nD Cert.DgradIdeal.τ).loc Cert.DgradIdeal.main_arg6) = m ((c.tc : Thread Cert.DgradIdeal.nD Cert.DgradIdeal.τ).loc Cert.DgradIdeal.main_arg6)
      ∧ r.2.mem ((c.tc : Thread Cert.DgradIdeal.nD Cert.DgradIdeal.τ).loc Cert.DgradIdeal.main_arg7) = m ((c.tc : Thread Cert.DgradIdeal.nD Cert.DgradIdeal.τ).loc Cert.DgradIdeal.main_arg7))
      ∧ r.2.sem = fun _ => 0)

def quiescent_DgradReferenceIdeal [hDgradReferenceIdeal : Cert.DgradReferenceIdeal.Facts] : Prop :=
  ∀ (m : (ℓ : Loc Cert.DgradReferenceIdeal.nD Cert.DgradReferenceIdeal.τ Cert.DgradReferenceIdeal.sig) → Buf (Elt Ideal) ℓ) (g : Dev Cert.DgradReferenceIdeal.nD → PrngReg), Pre_DgradReferenceIdeal m →
    θ_run (Cert.DgradReferenceIdeal.defs (F := Ideal)) (onTc (τ := Cert.DgradReferenceIdeal.τ) (Cert.DgradReferenceIdeal.main (F := Ideal))) ⟨m, fun _ => 0, g⟩ (fun r => (∀ c : Dev Cert.DgradReferenceIdeal.nD,
      r.2.mem ((c.tc : Thread Cert.DgradReferenceIdeal.nD Cert.DgradReferenceIdeal.τ).loc Cert.DgradReferenceIdeal.main_arg0) = m ((c.tc : Thread Cert.DgradReferenceIdeal.nD Cert.DgradReferenceIdeal.τ).loc Cert.DgradReferenceIdeal.main_arg0)
      ∧ r.2.mem ((c.tc : Thread Cert.DgradReferenceIdeal.nD Cert.DgradReferenceIdeal.τ).loc Cert.DgradReferenceIdeal.main_arg1) = m ((c.tc : Thread Cert.DgradReferenceIdeal.nD Cert.DgradReferenceIdeal.τ).loc Cert.DgradReferenceIdeal.main_arg1)
      ∧ r.2.mem ((c.tc : Thread Cert.DgradReferenceIdeal.nD Cert.DgradReferenceIdeal.τ).loc Cert.DgradReferenceIdeal.main_arg2) = m ((c.tc : Thread Cert.DgradReferenceIdeal.nD Cert.DgradReferenceIdeal.τ).loc Cert.DgradReferenceIdeal.main_arg2)
      ∧ r.2.mem ((c.tc : Thread Cert.DgradReferenceIdeal.nD Cert.DgradReferenceIdeal.τ).loc Cert.DgradReferenceIdeal.main_arg3) = m ((c.tc : Thread Cert.DgradReferenceIdeal.nD Cert.DgradReferenceIdeal.τ).loc Cert.DgradReferenceIdeal.main_arg3)
      ∧ r.2.mem ((c.tc : Thread Cert.DgradReferenceIdeal.nD Cert.DgradReferenceIdeal.τ).loc Cert.DgradReferenceIdeal.main_arg4) = m ((c.tc : Thread Cert.DgradReferenceIdeal.nD Cert.DgradReferenceIdeal.τ).loc Cert.DgradReferenceIdeal.main_arg4)
      ∧ r.2.mem ((c.tc : Thread Cert.DgradReferenceIdeal.nD Cert.DgradReferenceIdeal.τ).loc Cert.DgradReferenceIdeal.main_arg5) = m ((c.tc : Thread Cert.DgradReferenceIdeal.nD Cert.DgradReferenceIdeal.τ).loc Cert.DgradReferenceIdeal.main_arg5)
      ∧ r.2.mem ((c.tc : Thread Cert.DgradReferenceIdeal.nD Cert.DgradReferenceIdeal.τ).loc Cert.DgradReferenceIdeal.main_arg6) = m ((c.tc : Thread Cert.DgradReferenceIdeal.nD Cert.DgradReferenceIdeal.τ).loc Cert.DgradReferenceIdeal.main_arg6)
      ∧ r.2.mem ((c.tc : Thread Cert.DgradReferenceIdeal.nD Cert.DgradReferenceIdeal.τ).loc Cert.DgradReferenceIdeal.main_arg7) = m ((c.tc : Thread Cert.DgradReferenceIdeal.nD Cert.DgradReferenceIdeal.τ).loc Cert.DgradReferenceIdeal.main_arg7))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2)
      ∧ r.2.mem ((c.tc : Thread Cert.Wgrad.nD Cert.Wgrad.τ).loc Cert.Wgrad.main_arg3) = m ((c.tc : Thread Cert.Wgrad.nD Cert.Wgrad.τ).loc Cert.Wgrad.main_arg3))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
      ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1)
      ∧ r.2.mem ((c.tc : Thread Cert.WgradReferenceIdeal.nD Cert.WgradReferenceIdeal.τ).loc Cert.WgradReferenceIdeal.main_arg2) = m ((c.tc : Thread Cert.WgradReferenceIdeal.nD Cert.WgradReferenceIdeal.τ).loc Cert.WgradReferenceIdeal.main_arg2)
      ∧ r.2.mem ((c.tc : Thread Cert.WgradReferenceIdeal.nD Cert.WgradReferenceIdeal.τ).loc Cert.WgradReferenceIdeal.main_arg3) = m ((c.tc : Thread Cert.WgradReferenceIdeal.nD Cert.WgradReferenceIdeal.τ).loc Cert.WgradReferenceIdeal.main_arg3))
      ∧ r.2.sem = fun _ => 0)

def preserves_Stats_StatsIdeal : Prop :=
  True

def algebraic_StatsIdeal_StatsReferenceIdeal [hStatsIdeal : Cert.StatsIdeal.Facts] [hStatsReferenceIdeal : Cert.StatsReferenceIdeal.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)
      ∧ m' ((c.tc : Thread Cert.StatsReferenceIdeal.nD Cert.StatsReferenceIdeal.τ).loc Cert.StatsReferenceIdeal.main_arg1) = m ((c.tc : Thread Cert.StatsIdeal.nD Cert.StatsIdeal.τ).loc Cert.StatsIdeal.main_arg1)
      ∧ m' ((c.tc : Thread Cert.StatsReferenceIdeal.nD Cert.StatsReferenceIdeal.τ).loc Cert.StatsReferenceIdeal.main_arg2) = m ((c.tc : Thread Cert.StatsIdeal.nD Cert.StatsIdeal.τ).loc Cert.StatsIdeal.main_arg2)) →
    ∃ (v0 : (c : Dev Cert.StatsIdeal.nD) → Buf (Elt Ideal) ((c.tc : Thread Cert.StatsIdeal.nD Cert.StatsIdeal.τ).loc Cert.StatsIdeal.main_v33)) (v1 : (c : Dev Cert.StatsIdeal.nD) → Buf (Elt Ideal) ((c.tc : Thread Cert.StatsIdeal.nD Cert.StatsIdeal.τ).loc Cert.StatsIdeal.main_v42)) (v2 : (c : Dev Cert.StatsIdeal.nD) → Buf (Elt Ideal) ((c.tc : Thread Cert.StatsIdeal.nD Cert.StatsIdeal.τ).loc Cert.StatsIdeal.main_v52)) (v3 : (c : Dev Cert.StatsIdeal.nD) → Buf (Elt Ideal) ((c.tc : Thread Cert.StatsIdeal.nD Cert.StatsIdeal.τ).loc Cert.StatsIdeal.main_v62)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v33) = v0 c
          ∧ r.2.mem ((c.tc : Thread Cert.StatsIdeal.nD Cert.StatsIdeal.τ).loc Cert.StatsIdeal.main_v42) = v1 c
          ∧ r.2.mem ((c.tc : Thread Cert.StatsIdeal.nD Cert.StatsIdeal.τ).loc Cert.StatsIdeal.main_v52) = v2 c
          ∧ r.2.mem ((c.tc : Thread Cert.StatsIdeal.nD Cert.StatsIdeal.τ).loc Cert.StatsIdeal.main_v62) = v3 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          r.2.mem ((c.tc : Thread Cert.StatsReferenceIdeal.nD Cert.StatsReferenceIdeal.τ).loc Cert.StatsReferenceIdeal.main_v33) = v0 c
          ∧ r.2.mem ((c.tc : Thread Cert.StatsReferenceIdeal.nD Cert.StatsReferenceIdeal.τ).loc Cert.StatsReferenceIdeal.main_v65) = v1 c
          ∧ r.2.mem ((c.tc : Thread Cert.StatsReferenceIdeal.nD Cert.StatsReferenceIdeal.τ).loc Cert.StatsReferenceIdeal.main_v44) = v2 c
          ∧ r.2.mem ((c.tc : Thread Cert.StatsReferenceIdeal.nD Cert.StatsReferenceIdeal.τ).loc Cert.StatsReferenceIdeal.main_v76) = v3 c
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0)
          ∧ r.2.mem ((c.tc : Thread Cert.StatsReferenceIdeal.nD Cert.StatsReferenceIdeal.τ).loc Cert.StatsReferenceIdeal.main_arg1) = m' ((c.tc : Thread Cert.StatsReferenceIdeal.nD Cert.StatsReferenceIdeal.τ).loc Cert.StatsReferenceIdeal.main_arg1)
          ∧ r.2.mem ((c.tc : Thread Cert.StatsReferenceIdeal.nD Cert.StatsReferenceIdeal.τ).loc Cert.StatsReferenceIdeal.main_arg2) = m' ((c.tc : Thread Cert.StatsReferenceIdeal.nD Cert.StatsReferenceIdeal.τ).loc Cert.StatsReferenceIdeal.main_arg2))

def preserves_Dgrad_DgradIdeal : Prop :=
  True

def algebraic_DgradIdeal_DgradReferenceIdeal [hDgradIdeal : Cert.DgradIdeal.Facts] [hDgradReferenceIdeal : Cert.DgradReferenceIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradReferenceIdeal.nD Cert.DgradReferenceIdeal.τ Cert.DgradReferenceIdeal.sig) → Buf (Elt Ideal) ℓ) (g' : Dev Cert.DgradReferenceIdeal.nD → PrngReg), Pre_DgradIdeal m →
    (∀ c : Dev Cert.DgradIdeal.nD,
      m' ((c.tc : Thread Cert.DgradReferenceIdeal.nD Cert.DgradReferenceIdeal.τ).loc Cert.DgradReferenceIdeal.main_arg0) = m ((c.tc : Thread Cert.DgradIdeal.nD Cert.DgradIdeal.τ).loc Cert.DgradIdeal.main_arg0)
      ∧ m' ((c.tc : Thread Cert.DgradReferenceIdeal.nD Cert.DgradReferenceIdeal.τ).loc Cert.DgradReferenceIdeal.main_arg1) = m ((c.tc : Thread Cert.DgradIdeal.nD Cert.DgradIdeal.τ).loc Cert.DgradIdeal.main_arg1)
      ∧ m' ((c.tc : Thread Cert.DgradReferenceIdeal.nD Cert.DgradReferenceIdeal.τ).loc Cert.DgradReferenceIdeal.main_arg2) = m ((c.tc : Thread Cert.DgradIdeal.nD Cert.DgradIdeal.τ).loc Cert.DgradIdeal.main_arg2)
      ∧ m' ((c.tc : Thread Cert.DgradReferenceIdeal.nD Cert.DgradReferenceIdeal.τ).loc Cert.DgradReferenceIdeal.main_arg3) = m ((c.tc : Thread Cert.DgradIdeal.nD Cert.DgradIdeal.τ).loc Cert.DgradIdeal.main_arg3)
      ∧ m' ((c.tc : Thread Cert.DgradReferenceIdeal.nD Cert.DgradReferenceIdeal.τ).loc Cert.DgradReferenceIdeal.main_arg4) = m ((c.tc : Thread Cert.DgradIdeal.nD Cert.DgradIdeal.τ).loc Cert.DgradIdeal.main_arg4)
      ∧ m' ((c.tc : Thread Cert.DgradReferenceIdeal.nD Cert.DgradReferenceIdeal.τ).loc Cert.DgradReferenceIdeal.main_arg5) = m ((c.tc : Thread Cert.DgradIdeal.nD Cert.DgradIdeal.τ).loc Cert.DgradIdeal.main_arg5)
      ∧ m' ((c.tc : Thread Cert.DgradReferenceIdeal.nD Cert.DgradReferenceIdeal.τ).loc Cert.DgradReferenceIdeal.main_arg6) = m ((c.tc : Thread Cert.DgradIdeal.nD Cert.DgradIdeal.τ).loc Cert.DgradIdeal.main_arg6)
      ∧ m' ((c.tc : Thread Cert.DgradReferenceIdeal.nD Cert.DgradReferenceIdeal.τ).loc Cert.DgradReferenceIdeal.main_arg7) = m ((c.tc : Thread Cert.DgradIdeal.nD Cert.DgradIdeal.τ).loc Cert.DgradIdeal.main_arg7)) →
    ∃ (v0 : (c : Dev Cert.DgradIdeal.nD) → Buf (Elt Ideal) ((c.tc : Thread Cert.DgradIdeal.nD Cert.DgradIdeal.τ).loc Cert.DgradIdeal.main_v5_0)) (v1 : (c : Dev Cert.DgradIdeal.nD) → Buf (Elt Ideal) ((c.tc : Thread Cert.DgradIdeal.nD Cert.DgradIdeal.τ).loc Cert.DgradIdeal.main_v5_1)) (v2 : (c : Dev Cert.DgradIdeal.nD) → Buf (Elt Ideal) ((c.tc : Thread Cert.DgradIdeal.nD Cert.DgradIdeal.τ).loc Cert.DgradIdeal.main_v5_2)) (v3 : (c : Dev Cert.DgradIdeal.nD) → Buf (Elt Ideal) ((c.tc : Thread Cert.DgradIdeal.nD Cert.DgradIdeal.τ).loc Cert.DgradIdeal.main_v5_3)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v5_0) = v0 c
          ∧ r.2.mem ((c.tc : Thread Cert.DgradIdeal.nD Cert.DgradIdeal.τ).loc Cert.DgradIdeal.main_v5_1) = v1 c
          ∧ r.2.mem ((c.tc : Thread Cert.DgradIdeal.nD Cert.DgradIdeal.τ).loc Cert.DgradIdeal.main_v5_2) = v2 c
          ∧ r.2.mem ((c.tc : Thread Cert.DgradIdeal.nD Cert.DgradIdeal.τ).loc Cert.DgradIdeal.main_v5_3) = v3 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
          ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3)
          ∧ r.2.mem ((c.tc : Thread Cert.DgradIdeal.nD Cert.DgradIdeal.τ).loc Cert.DgradIdeal.main_arg4) = m ((c.tc : Thread Cert.DgradIdeal.nD Cert.DgradIdeal.τ).loc Cert.DgradIdeal.main_arg4)
          ∧ r.2.mem ((c.tc : Thread Cert.DgradIdeal.nD Cert.DgradIdeal.τ).loc Cert.DgradIdeal.main_arg5) = m ((c.tc : Thread Cert.DgradIdeal.nD Cert.DgradIdeal.τ).loc Cert.DgradIdeal.main_arg5)
          ∧ r.2.mem ((c.tc : Thread Cert.DgradIdeal.nD Cert.DgradIdeal.τ).loc Cert.DgradIdeal.main_arg6) = m ((c.tc : Thread Cert.DgradIdeal.nD Cert.DgradIdeal.τ).loc Cert.DgradIdeal.main_arg6)
          ∧ r.2.mem ((c.tc : Thread Cert.DgradIdeal.nD Cert.DgradIdeal.τ).loc Cert.DgradIdeal.main_arg7) = m ((c.tc : Thread Cert.DgradIdeal.nD Cert.DgradIdeal.τ).loc Cert.DgradIdeal.main_arg7))
      ∧ θ_run (Cert.DgradReferenceIdeal.defs (F := Ideal)) (onTc (τ := Cert.DgradReferenceIdeal.τ) (Cert.DgradReferenceIdeal.main (F := Ideal))) ⟨m', fun _ => 0, g'⟩ (fun r => ∀ c : Dev Cert.DgradReferenceIdeal.nD,
          r.2.mem ((c.tc : Thread Cert.DgradReferenceIdeal.nD Cert.DgradReferenceIdeal.τ).loc Cert.DgradReferenceIdeal.main_v3_0) = v0 c
          ∧ r.2.mem ((c.tc : Thread Cert.DgradReferenceIdeal.nD Cert.DgradReferenceIdeal.τ).loc Cert.DgradReferenceIdeal.main_v3_1) = v1 c
          ∧ r.2.mem ((c.tc : Thread Cert.DgradReferenceIdeal.nD Cert.DgradReferenceIdeal.τ).loc Cert.DgradReferenceIdeal.main_v3_2) = v2 c
          ∧ r.2.mem ((c.tc : Thread Cert.DgradReferenceIdeal.nD Cert.DgradReferenceIdeal.τ).loc Cert.DgradReferenceIdeal.main_v3_3) = v3 c
          ∧ r.2.mem ((c.tc : Thread Cert.DgradReferenceIdeal.nD Cert.DgradReferenceIdeal.τ).loc Cert.DgradReferenceIdeal.main_arg0) = m' ((c.tc : Thread Cert.DgradReferenceIdeal.nD Cert.DgradReferenceIdeal.τ).loc Cert.DgradReferenceIdeal.main_arg0)
          ∧ r.2.mem ((c.tc : Thread Cert.DgradReferenceIdeal.nD Cert.DgradReferenceIdeal.τ).loc Cert.DgradReferenceIdeal.main_arg1) = m' ((c.tc : Thread Cert.DgradReferenceIdeal.nD Cert.DgradReferenceIdeal.τ).loc Cert.DgradReferenceIdeal.main_arg1)
          ∧ r.2.mem ((c.tc : Thread Cert.DgradReferenceIdeal.nD Cert.DgradReferenceIdeal.τ).loc Cert.DgradReferenceIdeal.main_arg2) = m' ((c.tc : Thread Cert.DgradReferenceIdeal.nD Cert.DgradReferenceIdeal.τ).loc Cert.DgradReferenceIdeal.main_arg2)
          ∧ r.2.mem ((c.tc : Thread Cert.DgradReferenceIdeal.nD Cert.DgradReferenceIdeal.τ).loc Cert.DgradReferenceIdeal.main_arg3) = m' ((c.tc : Thread Cert.DgradReferenceIdeal.nD Cert.DgradReferenceIdeal.τ).loc Cert.DgradReferenceIdeal.main_arg3)
          ∧ r.2.mem ((c.tc : Thread Cert.DgradReferenceIdeal.nD Cert.DgradReferenceIdeal.τ).loc Cert.DgradReferenceIdeal.main_arg4) = m' ((c.tc : Thread Cert.DgradReferenceIdeal.nD Cert.DgradReferenceIdeal.τ).loc Cert.DgradReferenceIdeal.main_arg4)
          ∧ r.2.mem ((c.tc : Thread Cert.DgradReferenceIdeal.nD Cert.DgradReferenceIdeal.τ).loc Cert.DgradReferenceIdeal.main_arg5) = m' ((c.tc : Thread Cert.DgradReferenceIdeal.nD Cert.DgradReferenceIdeal.τ).loc Cert.DgradReferenceIdeal.main_arg5)
          ∧ r.2.mem ((c.tc : Thread Cert.DgradReferenceIdeal.nD Cert.DgradReferenceIdeal.τ).loc Cert.DgradReferenceIdeal.main_arg6) = m' ((c.tc : Thread Cert.DgradReferenceIdeal.nD Cert.DgradReferenceIdeal.τ).loc Cert.DgradReferenceIdeal.main_arg6)
          ∧ r.2.mem ((c.tc : Thread Cert.DgradReferenceIdeal.nD Cert.DgradReferenceIdeal.τ).loc Cert.DgradReferenceIdeal.main_arg7) = m' ((c.tc : Thread Cert.DgradReferenceIdeal.nD Cert.DgradReferenceIdeal.τ).loc Cert.DgradReferenceIdeal.main_arg7))

def preserves_Wgrad_WgradIdeal : Prop :=
  True

def algebraic_WgradIdeal_WgradReferenceIdeal [hWgradIdeal : Cert.WgradIdeal.Facts] [hWgradReferenceIdeal : Cert.WgradReferenceIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradIdeal m →
    (∀ c : Dev Cert.WgradIdeal.nD,
      m' ((c.tc : Thread Cert.WgradReferenceIdeal.nD Cert.WgradReferenceIdeal.τ).loc Cert.WgradReferenceIdeal.main_arg0) = m ((c.tc : Thread Cert.WgradIdeal.nD Cert.WgradIdeal.τ).loc Cert.WgradIdeal.main_arg0)
      ∧ m' ((c.tc : Thread Cert.WgradReferenceIdeal.nD Cert.WgradReferenceIdeal.τ).loc Cert.WgradReferenceIdeal.main_arg1) = m ((c.tc : Thread Cert.WgradIdeal.nD Cert.WgradIdeal.τ).loc Cert.WgradIdeal.main_arg1)
      ∧ m' ((c.tc : Thread Cert.WgradReferenceIdeal.nD Cert.WgradReferenceIdeal.τ).loc Cert.WgradReferenceIdeal.main_arg2) = m ((c.tc : Thread Cert.WgradIdeal.nD Cert.WgradIdeal.τ).loc Cert.WgradIdeal.main_arg2)
      ∧ m' ((c.tc : Thread Cert.WgradReferenceIdeal.nD Cert.WgradReferenceIdeal.τ).loc Cert.WgradReferenceIdeal.main_arg3) = m ((c.tc : Thread Cert.WgradIdeal.nD Cert.WgradIdeal.τ).loc Cert.WgradIdeal.main_arg3)) →
    ∃ (v0 : (c : Dev Cert.WgradIdeal.nD) → Buf (Elt Ideal) ((c.tc : Thread Cert.WgradIdeal.nD Cert.WgradIdeal.τ).loc Cert.WgradIdeal.main_v1)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v1) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2)
          ∧ r.2.mem ((c.tc : Thread Cert.WgradIdeal.nD Cert.WgradIdeal.τ).loc Cert.WgradIdeal.main_arg3) = m ((c.tc : Thread Cert.WgradIdeal.nD Cert.WgradIdeal.τ).loc Cert.WgradIdeal.main_arg3))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v0) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1)
          ∧ r.2.mem ((c.tc : Thread Cert.WgradReferenceIdeal.nD Cert.WgradReferenceIdeal.τ).loc Cert.WgradReferenceIdeal.main_arg2) = m' ((c.tc : Thread Cert.WgradReferenceIdeal.nD Cert.WgradReferenceIdeal.τ).loc Cert.WgradReferenceIdeal.main_arg2)
          ∧ r.2.mem ((c.tc : Thread Cert.WgradReferenceIdeal.nD Cert.WgradReferenceIdeal.τ).loc Cert.WgradReferenceIdeal.main_arg3) = m' ((c.tc : Thread Cert.WgradReferenceIdeal.nD Cert.WgradReferenceIdeal.τ).loc Cert.WgradReferenceIdeal.main_arg3))

def Claim : Prop :=
  ∃ (hStats : Cert.Stats.Facts) (hStatsIdeal : Cert.StatsIdeal.Facts) (hStatsReferenceIdeal : Cert.StatsReferenceIdeal.Facts) (hDgrad : Cert.Dgrad.Facts) (hDgradIdeal : Cert.DgradIdeal.Facts) (hDgradReferenceIdeal : Cert.DgradReferenceIdeal.Facts) (hWgrad : Cert.Wgrad.Facts) (hWgradIdeal : Cert.WgradIdeal.Facts) (hWgradReferenceIdeal : Cert.WgradReferenceIdeal.Facts),
    quiescent_Stats (hStats := hStats)
    ∧ quiescent_StatsIdeal (hStatsIdeal := hStatsIdeal)
    ∧ quiescent_StatsReferenceIdeal (hStatsReferenceIdeal := hStatsReferenceIdeal)
    ∧ quiescent_Dgrad (hDgrad := hDgrad)
    ∧ quiescent_DgradIdeal (hDgradIdeal := hDgradIdeal)
    ∧ quiescent_DgradReferenceIdeal (hDgradReferenceIdeal := hDgradReferenceIdeal)
    ∧ quiescent_Wgrad (hWgrad := hWgrad)
    ∧ quiescent_WgradIdeal (hWgradIdeal := hWgradIdeal)
    ∧ quiescent_WgradReferenceIdeal (hWgradReferenceIdeal := hWgradReferenceIdeal)
    ∧ preserves_Stats_StatsIdeal
    ∧ algebraic_StatsIdeal_StatsReferenceIdeal (hStatsIdeal := hStatsIdeal) (hStatsReferenceIdeal := hStatsReferenceIdeal)
    ∧ preserves_Dgrad_DgradIdeal
    ∧ algebraic_DgradIdeal_DgradReferenceIdeal (hDgradIdeal := hDgradIdeal) (hDgradReferenceIdeal := hDgradReferenceIdeal)
    ∧ preserves_Wgrad_WgradIdeal
    ∧ algebraic_WgradIdeal_WgradReferenceIdeal (hWgradIdeal := hWgradIdeal) (hWgradReferenceIdeal := hWgradReferenceIdeal)
-- ==== Stats.lean ====
abbrev S2x1024x4096 : Shape := ⟨3, ![2, 1024, 4096]⟩
abbrev S4096 : Shape := ⟨1, ![4096]⟩
abbrev S2x1024x16384 : Shape := ⟨3, ![2, 1024, 16384]⟩
abbrev S277 : Shape := ⟨1, ![277]⟩
abbrev S298 : Shape := ⟨1, ![298]⟩
abbrev S2048x4096 : Shape := ⟨2, ![2048, 4096]⟩
abbrev S2048x16384 : Shape := ⟨2, ![2048, 16384]⟩
abbrev S1x4096 : Shape := ⟨2, ![1, 4096]⟩
abbrev S1x16384 : Shape := ⟨2, ![1, 16384]⟩
abbrev S128x4096 : Shape := ⟨2, ![128, 4096]⟩
abbrev S128x16384 : Shape := ⟨2, ![128, 16384]⟩
abbrev S128 : Shape := ⟨1, ![128]⟩
abbrev S128x1 : Shape := ⟨2, ![128, 1]⟩
abbrev S16384 : Shape := ⟨1, ![16384]⟩
abbrev S_ : Shape := ⟨0, ![]⟩
abbrev S1 : Shape := ⟨1, ![1]⟩

abbrev nBuf : Space → Nat
  | .hbm => 108
  | .vmem => 7
  | .smem => 0
  | _ => 0

abbrev bufTy : (tb : Table) → Fin (tcTables nBuf tb) → BufTy
  | .hbm, ⟨0, _⟩ => ⟨S2x1024x4096, .bf16⟩
  | .hbm, ⟨1, _⟩ => ⟨S4096, .f32⟩
  | .hbm, ⟨2, _⟩ => ⟨S2x1024x16384, .bf16⟩
  | .hbm, ⟨3, _⟩ => ⟨S277, .f32⟩
  | .hbm, ⟨4, _⟩ => ⟨S277, .f32⟩
  | .hbm, ⟨5, _⟩ => ⟨S298, .f32⟩
  | .hbm, ⟨6, _⟩ => ⟨S298, .f32⟩
  | .hbm, ⟨7, _⟩ => ⟨S298, .f32⟩
  | .hbm, ⟨8, _⟩ => ⟨S298, .f32⟩
  | .hbm, ⟨9, _⟩ => ⟨S2048x4096, .bf16⟩
  | .hbm, ⟨10, _⟩ => ⟨S2048x16384, .bf16⟩
  | .hbm, ⟨11, _⟩ => ⟨S1x4096, .f32⟩
  | .hbm, ⟨12, _⟩ => ⟨S1x4096, .f32⟩
  | .hbm, ⟨13, _⟩ => ⟨S1x16384, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S277, .f32⟩
  | .hbm, ⟨19, _⟩ => ⟨S277, .i1⟩
  | .hbm, ⟨20, _⟩ => ⟨S277, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x16384, .bf16⟩
  | .hbm, ⟨31, _⟩ => ⟨S_, .bf16⟩
  | .hbm, ⟨32, _⟩ => ⟨S_, .bf16⟩
  | .hbm, ⟨33, _⟩ => ⟨S_, .bf16⟩
  | .hbm, ⟨34, _⟩ => ⟨S_, .bf16⟩
  | .hbm, ⟨35, _⟩ => ⟨S_, .f32⟩
  | .hbm, ⟨36, _⟩ => ⟨S277, .f32⟩
  | .hbm, ⟨37, _⟩ => ⟨S277, .i1⟩
  | .hbm, ⟨38, _⟩ => ⟨S277, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .bf16⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S1, .f32⟩
  | .hbm, ⟨50, _⟩ => ⟨S298, .i32⟩
  | .hbm, ⟨51, _⟩ => ⟨S_, .i32⟩
  | .hbm, ⟨52, _⟩ => ⟨S298, .i32⟩
  | .hbm, ⟨53, _⟩ => ⟨S298, .i32⟩
  | .hbm, ⟨54, _⟩ => ⟨S298, .i32⟩
  | .hbm, ⟨55, _⟩ => ⟨S298, .i1⟩
  | .hbm, ⟨56, _⟩ => ⟨S_, .f32⟩
  | .hbm, ⟨57, _⟩ => ⟨S_, .f32⟩
  | .hbm, ⟨58, _⟩ => ⟨S298, .f32⟩
  | .hbm, ⟨59, _⟩ => ⟨S298, .f32⟩
  | .hbm, ⟨60, _⟩ => ⟨S_, .f32⟩
  | .hbm, ⟨61, _⟩ => ⟨S_, .f32⟩
  | .hbm, ⟨62, _⟩ => ⟨S1, .f32⟩
  | .hbm, ⟨63, _⟩ => ⟨S1, .f32⟩
  | .hbm, ⟨64, _⟩ => ⟨S298, .i32⟩
  | .hbm, ⟨65, _⟩ => ⟨S_, .i32⟩
  | .hbm, ⟨66, _⟩ => ⟨S298, .i32⟩
  | .hbm, ⟨67, _⟩ => ⟨S298, .i32⟩
  | .hbm, ⟨68, _⟩ => ⟨S298, .i32⟩
  | .hbm, ⟨69, _⟩ => ⟨S298, .i1⟩
  | .hbm, ⟨70, _⟩ => ⟨S_, .f32⟩
  | .hbm, ⟨71, _⟩ => ⟨S_, .f32⟩
  | .hbm, ⟨72, _⟩ => ⟨S298, .f32⟩
  | .hbm, ⟨73, _⟩ => ⟨S298, .f32⟩
  | .hbm, ⟨74, _⟩ => ⟨S_, .f32⟩
  | .hbm, ⟨75, _⟩ => ⟨S_, .f32⟩
  | .hbm, ⟨76, _⟩ => ⟨S1, .f32⟩
  | .hbm, ⟨77, _⟩ => ⟨S1, .f32⟩
  | .hbm, ⟨78, _⟩ => ⟨S_, .i32⟩
  | .hbm, ⟨79, _⟩ => ⟨S298, .i32⟩
  | .hbm, ⟨80, _⟩ => ⟨S_, .i32⟩
  | .hbm, ⟨81, _⟩ => ⟨S298, .i32⟩
  | .hbm, ⟨82, _⟩ => ⟨S298, .i32⟩
  | .hbm, ⟨83, _⟩ => ⟨S298, .i32⟩
  | .hbm, ⟨84, _⟩ => ⟨S298, .i1⟩
  | .hbm, ⟨85, _⟩ => ⟨S_, .f32⟩
  | .hbm, ⟨86, _⟩ => ⟨S_, .f32⟩
  | .hbm, ⟨87, _⟩ => ⟨S298, .f32⟩
  | .hbm, ⟨88, _⟩ => ⟨S298, .f32⟩
  | .hbm, ⟨89, _⟩ => ⟨S_, .f32⟩
  | .hbm, ⟨90, _⟩ => ⟨S_, .f32⟩
  | .hbm, ⟨91, _⟩ => ⟨S1, .f32⟩
  | .hbm, ⟨92, _⟩ => ⟨S1, .f32⟩
  | .hbm, ⟨93, _⟩ => ⟨S_, .i32⟩
  | .hbm, ⟨94, _⟩ => ⟨S298, .i32⟩
  | .hbm, ⟨95, _⟩ => ⟨S_, .i32⟩
  | .hbm, ⟨96, _⟩ => ⟨S298, .i32⟩
  | .hbm, ⟨97, _⟩ => ⟨S298, .i32⟩
  | .hbm, ⟨98, _⟩ => ⟨S298, .i32⟩
  | .hbm, ⟨99, _⟩ => ⟨S298, .i1⟩
  | .hbm, ⟨100, _⟩ => ⟨S_, .f32⟩
  | .hbm, ⟨101, _⟩ => ⟨S_, .f32⟩
  | .hbm, ⟨102, _⟩ => ⟨S298, .f32⟩
  | .hbm, ⟨103, _⟩ => ⟨S298, .f32⟩
  | .hbm, ⟨104, _⟩ => ⟨S_, .f32⟩
  | .hbm, ⟨105, _⟩ => ⟨S_, .f32⟩
  | .hbm, ⟨106, _⟩ => ⟨S1, .f32⟩
  | .hbm, ⟨107, _⟩ => ⟨S1, .f32⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S128x16384, .bf16⟩
  | .local _ .vmem, ⟨4, _⟩ => ⟨S128x16384, .bf16⟩
  | .local _ .vmem, ⟨5, _⟩ => ⟨S1x4096, .f32⟩
  | .local _ .vmem, ⟨6, _⟩ => ⟨S1x16384, .f32⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_cst_5 : Ref sig .tc := ⟨.hbm, 14, rfl⟩
abbrev main_v4 : Ref sig .tc := ⟨.hbm, 15, rfl⟩
abbrev main_cst_6 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_c_7 : Ref sig .tc := ⟨.hbm, 23, rfl⟩
abbrev main_v10 : Ref sig .tc := ⟨.hbm, 24, rfl⟩
abbrev main_cst_8 : Ref sig .tc := ⟨.hbm, 25, rfl⟩
abbrev main_v11 : Ref sig .tc := ⟨.hbm, 26, rfl⟩
abbrev main_c_9 : Ref sig .tc := ⟨.hbm, 27, rfl⟩
abbrev main_call0_v0 : Ref sig .tc := ⟨.hbm, 28, rfl⟩
abbrev main_v12 : Ref sig .tc := ⟨.hbm, 29, rfl⟩
abbrev main_v13 : Ref sig .tc := ⟨.hbm, 30, rfl⟩
abbrev main_cst_10 : Ref sig .tc := ⟨.hbm, 31, rfl⟩
abbrev main_v14 : Ref sig .tc := ⟨.hbm, 32, rfl⟩
abbrev main_cst_11 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_12 : Ref sig .tc := ⟨.hbm, 39, rfl⟩
abbrev main_v20 : Ref sig .tc := ⟨.hbm, 40, rfl⟩
abbrev main_c_13 : Ref sig .tc := ⟨.hbm, 41, rfl⟩
abbrev main_v21 : Ref sig .tc := ⟨.hbm, 42, rfl⟩
abbrev main_cst_14 : Ref sig .tc := ⟨.hbm, 43, rfl⟩
abbrev main_v22 : Ref sig .tc := ⟨.hbm, 44, rfl⟩
abbrev main_c_15 : Ref sig .tc := ⟨.hbm, 45, rfl⟩
abbrev main_call1_v0 : Ref sig .tc := ⟨.hbm, 46, rfl⟩
abbrev main_v23 : Ref sig .tc := ⟨.hbm, 47, rfl⟩
abbrev main_cst_16 : Ref sig .tc := ⟨.hbm, 48, rfl⟩
abbrev main_v24 : Ref sig .tc := ⟨.hbm, 49, rfl⟩
abbrev main_v25 : Ref sig .tc := ⟨.hbm, 50, rfl⟩
abbrev main_c_17 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_18 : Ref sig .tc := ⟨.hbm, 56, rfl⟩
abbrev main_call2_v0 : Ref sig .tc := ⟨.hbm, 57, rfl⟩
abbrev main_call2_v1 : Ref sig .tc := ⟨.hbm, 58, rfl⟩
abbrev main_v30 : Ref sig .tc := ⟨.hbm, 59, rfl⟩
abbrev main_cst_19 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_20 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_21 : Ref sig .tc := ⟨.hbm, 70, rfl⟩
abbrev main_call3_v0 : Ref sig .tc := ⟨.hbm, 71, rfl⟩
abbrev main_call3_v1 : Ref sig .tc := ⟨.hbm, 72, rfl⟩
abbrev main_v39 : Ref sig .tc := ⟨.hbm, 73, rfl⟩
abbrev main_cst_22 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_23 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_24 : Ref sig .tc := ⟨.hbm, 85, rfl⟩
abbrev main_call4_v0 : Ref sig .tc := ⟨.hbm, 86, rfl⟩
abbrev main_call4_v1 : Ref sig .tc := ⟨.hbm, 87, rfl⟩
abbrev main_v49 : Ref sig .tc := ⟨.hbm, 88, rfl⟩
abbrev main_cst_25 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_26 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_27 : Ref sig .tc := ⟨.hbm, 100, rfl⟩
abbrev main_call5_v0 : Ref sig .tc := ⟨.hbm, 101, rfl⟩
abbrev main_call5_v1 : Ref sig .tc := ⟨.hbm, 102, rfl⟩
abbrev main_v59 : Ref sig .tc := ⟨.hbm, 103, rfl⟩
abbrev main_cst_28 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== StatsReferenceIdeal.lean ====
abbrev S2x1024x4096 : Shape := ⟨3, ![2, 1024, 4096]⟩
abbrev S4096 : Shape := ⟨1, ![4096]⟩
abbrev S2x1024x16384 : Shape := ⟨3, ![2, 1024, 16384]⟩
abbrev S277 : Shape := ⟨1, ![277]⟩
abbrev S298 : Shape := ⟨1, ![298]⟩
abbrev S_ : Shape := ⟨0, ![]⟩
abbrev S2x1024 : Shape := ⟨2, ![2, 1024]⟩
abbrev S2x1024x1 : Shape := ⟨3, ![2, 1024, 1]⟩
abbrev S1x1x4096 : Shape := ⟨3, ![1, 1, 4096]⟩
abbrev S1 : Shape := ⟨1, ![1]⟩

abbrev nBuf : Space → Nat
  | .hbm => 127
  | .vmem => 0
  | .smem => 0
  | _ => 0

abbrev bufTy : (tb : Table) → Fin (tcTables nBuf tb) → BufTy
  | .hbm, ⟨0, _⟩ => ⟨S2x1024x4096, .bf16⟩
  | .hbm, ⟨1, _⟩ => ⟨S4096, .f32⟩
  | .hbm, ⟨2, _⟩ => ⟨S2x1024x16384, .bf16⟩
  | .hbm, ⟨3, _⟩ => ⟨S277, .f32⟩
  | .hbm, ⟨4, _⟩ => ⟨S298, .f32⟩
  | .hbm, ⟨5, _⟩ => ⟨S298, .f32⟩
  | .hbm, ⟨6, _⟩ => ⟨S277, .f32⟩
  | .hbm, ⟨7, _⟩ => ⟨S298, .f32⟩
  | .hbm, ⟨8, _⟩ => ⟨S298, .f32⟩
  | .hbm, ⟨9, _⟩ => ⟨S2x1024x4096, .f32⟩
  | .hbm, ⟨10, _⟩ => ⟨S2x1024x4096, .f32⟩
  | .hbm, ⟨11, _⟩ => ⟨S_, .f32⟩
  | .hbm, ⟨12, _⟩ => ⟨S2x1024, .f32⟩
  | .hbm, ⟨13, _⟩ => ⟨S2x1024x1, .f32⟩
  | .hbm, ⟨14, _⟩ => ⟨S_, .f32⟩
  | .hbm, ⟨15, _⟩ => ⟨S2x1024x1, .f32⟩
  | .hbm, ⟨16, _⟩ => ⟨S2x1024x1, .f32⟩
  | .hbm, ⟨17, _⟩ => ⟨S_, .f32⟩
  | .hbm, ⟨18, _⟩ => ⟨S2x1024x1, .f32⟩
  | .hbm, ⟨19, _⟩ => ⟨S2x1024x1, .f32⟩
  | .hbm, ⟨20, _⟩ => ⟨S2x1024x1, .f32⟩
  | .hbm, ⟨21, _⟩ => ⟨S2x1024x4096, .f32⟩
  | .hbm, ⟨22, _⟩ => ⟨S2x1024x4096, .f32⟩
  | .hbm, ⟨23, _⟩ => ⟨S1x1x4096, .f32⟩
  | .hbm, ⟨24, _⟩ => ⟨S2x1024x4096, .f32⟩
  | .hbm, ⟨25, _⟩ => ⟨S2x1024x4096, .f32⟩
  | .hbm, ⟨26, _⟩ => ⟨S2x1024x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S277, .f32⟩
  | .hbm, ⟨32, _⟩ => ⟨S277, .i1⟩
  | .hbm, ⟨33, _⟩ => ⟨S_, .f32⟩
  | .hbm, ⟨34, _⟩ => ⟨S_, .i1⟩
  | .hbm, ⟨35, _⟩ => ⟨S277, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S1, .f32⟩
  | .hbm, ⟨45, _⟩ => ⟨S298, .i32⟩
  | .hbm, ⟨46, _⟩ => ⟨S_, .i32⟩
  | .hbm, ⟨47, _⟩ => ⟨S298, .i32⟩
  | .hbm, ⟨48, _⟩ => ⟨S298, .i32⟩
  | .hbm, ⟨49, _⟩ => ⟨S298, .i32⟩
  | .hbm, ⟨50, _⟩ => ⟨S298, .i1⟩
  | .hbm, ⟨51, _⟩ => ⟨S_, .f32⟩
  | .hbm, ⟨52, _⟩ => ⟨S_, .f32⟩
  | .hbm, ⟨53, _⟩ => ⟨S298, .f32⟩
  | .hbm, ⟨54, _⟩ => ⟨S298, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S_, .i32⟩
  | .hbm, ⟨60, _⟩ => ⟨S_, .f32⟩
  | .hbm, ⟨61, _⟩ => ⟨S1, .f32⟩
  | .hbm, ⟨62, _⟩ => ⟨S298, .i32⟩
  | .hbm, ⟨63, _⟩ => ⟨S_, .i32⟩
  | .hbm, ⟨64, _⟩ => ⟨S298, .i32⟩
  | .hbm, ⟨65, _⟩ => ⟨S298, .i32⟩
  | .hbm, ⟨66, _⟩ => ⟨S298, .i32⟩
  | .hbm, ⟨67, _⟩ => ⟨S298, .i1⟩
  | .hbm, ⟨68, _⟩ => ⟨S_, .f32⟩
  | .hbm, ⟨69, _⟩ => ⟨S_, .f32⟩
  | .hbm, ⟨70, _⟩ => ⟨S298, .f32⟩
  | .hbm, ⟨71, _⟩ => ⟨S298, .f32⟩
  | .hbm, ⟨72, _⟩ => ⟨S_, .f32⟩
  | .hbm, ⟨73, _⟩ => ⟨S_, .f32⟩
  | .hbm, ⟨74, _⟩ => ⟨S1, .f32⟩
  | .hbm, ⟨75, _⟩ => ⟨S1, .f32⟩
  | .hbm, ⟨76, _⟩ => ⟨S2x1024x16384, .bf16⟩
  | .hbm, ⟨77, _⟩ => ⟨S_, .bf16⟩
  | .hbm, ⟨78, _⟩ => ⟨S_, .bf16⟩
  | .hbm, ⟨79, _⟩ => ⟨S_, .bf16⟩
  | .hbm, ⟨80, _⟩ => ⟨S_, .bf16⟩
  | .hbm, ⟨81, _⟩ => ⟨S_, .f32⟩
  | .hbm, ⟨82, _⟩ => ⟨S277, .f32⟩
  | .hbm, ⟨83, _⟩ => ⟨S277, .i1⟩
  | .hbm, ⟨84, _⟩ => ⟨S_, .bf16⟩
  | .hbm, ⟨85, _⟩ => ⟨S_, .i1⟩
  | .hbm, ⟨86, _⟩ => ⟨S277, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .f32⟩
  | .hbm, ⟨95, _⟩ => ⟨S1, .f32⟩
  | .hbm, ⟨96, _⟩ => ⟨S298, .i32⟩
  | .hbm, ⟨97, _⟩ => ⟨S_, .i32⟩
  | .hbm, ⟨98, _⟩ => ⟨S298, .i32⟩
  | .hbm, ⟨99, _⟩ => ⟨S298, .i32⟩
  | .hbm, ⟨100, _⟩ => ⟨S298, .i32⟩
  | .hbm, ⟨101, _⟩ => ⟨S298, .i1⟩
  | .hbm, ⟨102, _⟩ => ⟨S_, .f32⟩
  | .hbm, ⟨103, _⟩ => ⟨S_, .f32⟩
  | .hbm, ⟨104, _⟩ => ⟨S298, .f32⟩
  | .hbm, ⟨105, _⟩ => ⟨S298, .f32⟩
  | .hbm, ⟨106, _⟩ => ⟨S_, .f32⟩
  | .hbm, ⟨107, _⟩ => ⟨S_, .f32⟩
  | .hbm, ⟨108, _⟩ => ⟨S1, .f32⟩
  | .hbm, ⟨109, _⟩ => ⟨S1, .f32⟩
  | .hbm, ⟨110, _⟩ => ⟨S_, .i32⟩
  | .hbm, ⟨111, _⟩ => ⟨S_, .f32⟩
  | .hbm, ⟨112, _⟩ => ⟨S1, .f32⟩
  | .hbm, ⟨113, _⟩ => ⟨S298, .i32⟩
  | .hbm, ⟨114, _⟩ => ⟨S_, .i32⟩
  | .hbm, ⟨115, _⟩ => ⟨S298, .i32⟩
  | .hbm, ⟨116, _⟩ => ⟨S298, .i32⟩
  | .hbm, ⟨117, _⟩ => ⟨S298, .i32⟩
  | .hbm, ⟨118, _⟩ => ⟨S298, .i1⟩
  | .hbm, ⟨119, _⟩ => ⟨S_, .f32⟩
  | .hbm, ⟨120, _⟩ => ⟨S_, .f32⟩
  | .hbm, ⟨121, _⟩ => ⟨S298, .f32⟩
  | .hbm, ⟨122, _⟩ => ⟨S298, .f32⟩
  | .hbm, ⟨123, _⟩ => ⟨S_, .f32⟩
  | .hbm, ⟨124, _⟩ => ⟨S_, .f32⟩
  | .hbm, ⟨125, _⟩ => ⟨S1, .f32⟩
  | .hbm, ⟨126, _⟩ => ⟨S1, .f32⟩
  | _, _ => ⟨S2x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_v0 : Ref sig .tc := ⟨.hbm, 9, rfl⟩
abbrev main_v1 : Ref sig .tc := ⟨.hbm, 10, rfl⟩
abbrev main_cst_5 : Ref sig .tc := ⟨.hbm, 11, rfl⟩
abbrev main_v2 : Ref sig .tc := ⟨.hbm, 12, rfl⟩
abbrev main_v3 : Ref sig .tc := ⟨.hbm, 13, rfl⟩
abbrev main_cst_6 : Ref sig .tc := ⟨.hbm, 14, rfl⟩
abbrev main_v4 : Ref sig .tc := ⟨.hbm, 15, rfl⟩
abbrev main_v5 : Ref sig .tc := ⟨.hbm, 16, rfl⟩
abbrev main_cst_7 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_8 : Ref sig .tc := ⟨.hbm, 27, rfl⟩
abbrev main_v15 : Ref sig .tc := ⟨.hbm, 28, rfl⟩
abbrev main_cst_9 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_10 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_c_11 : Ref sig .tc := ⟨.hbm, 38, rfl⟩
abbrev main_v22 : Ref sig .tc := ⟨.hbm, 39, rfl⟩
abbrev main_c_12 : Ref sig .tc := ⟨.hbm, 40, rfl⟩
abbrev main_call0_v0 : Ref sig .tc := ⟨.hbm, 41, rfl⟩
abbrev main_v23 : Ref sig .tc := ⟨.hbm, 42, rfl⟩
abbrev main_cst_13 : Ref sig .tc := ⟨.hbm, 43, rfl⟩
abbrev main_v24 : Ref sig .tc := ⟨.hbm, 44, rfl⟩
abbrev main_v25 : Ref sig .tc := ⟨.hbm, 45, rfl⟩
abbrev main_c_14 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_15 : Ref sig .tc := ⟨.hbm, 51, rfl⟩
abbrev main_call1_v0 : Ref sig .tc := ⟨.hbm, 52, rfl⟩
abbrev main_call1_v1 : Ref sig .tc := ⟨.hbm, 53, rfl⟩
abbrev main_v30 : Ref sig .tc := ⟨.hbm, 54, rfl⟩
abbrev main_cst_16 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_17 : Ref sig .tc := ⟨.hbm, 60, rfl⟩
abbrev main_v35 : Ref sig .tc := ⟨.hbm, 61, rfl⟩
abbrev main_v36 : Ref sig .tc := ⟨.hbm, 62, rfl⟩
abbrev main_c_18 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_19 : Ref sig .tc := ⟨.hbm, 68, rfl⟩
abbrev main_call2_v0 : Ref sig .tc := ⟨.hbm, 69, rfl⟩
abbrev main_call2_v1 : Ref sig .tc := ⟨.hbm, 70, rfl⟩
abbrev main_v41 : Ref sig .tc := ⟨.hbm, 71, rfl⟩
abbrev main_cst_20 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_21 : Ref sig .tc := ⟨.hbm, 77, rfl⟩
abbrev main_v46 : Ref sig .tc := ⟨.hbm, 78, rfl⟩
abbrev main_cst_22 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_23 : Ref sig .tc := ⟨.hbm, 84, rfl⟩
abbrev main_v51 : Ref sig .tc := ⟨.hbm, 85, rfl⟩
abbrev main_v52 : Ref sig .tc := ⟨.hbm, 86, rfl⟩
abbrev main_c_24 : Ref sig .tc := ⟨.hbm, 87, rfl⟩
abbrev main_v53 : Ref sig .tc := ⟨.hbm, 88, rfl⟩
abbrev main_c_25 : Ref sig .tc := ⟨.hbm, 89, rfl⟩
abbrev main_v54 : Ref sig .tc := ⟨.hbm, 90, rfl⟩
abbrev main_c_26 : Ref sig .tc := ⟨.hbm, 91, rfl⟩
abbrev main_call3_v0 : Ref sig .tc := ⟨.hbm, 92, rfl⟩
abbrev main_v55 : Ref sig .tc := ⟨.hbm, 93, rfl⟩
abbrev main_cst_27 : Ref sig .tc := ⟨.hbm, 94, rfl⟩
abbrev main_v56 : Ref sig .tc := ⟨.hbm, 95, rfl⟩
abbrev main_v57 : Ref sig .tc := ⟨.hbm, 96, rfl⟩
abbrev main_c_28 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_29 : Ref sig .tc := ⟨.hbm, 102, rfl⟩
abbrev main_call4_v0 : Ref sig .tc := ⟨.hbm, 103, rfl⟩
abbrev main_call4_v1 : Ref sig .tc := ⟨.hbm, 104, rfl⟩
abbrev main_v62 : Ref sig .tc := ⟨.hbm, 105, rfl⟩
abbrev main_cst_30 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_31 : Ref sig .tc := ⟨.hbm, 111, rfl⟩
abbrev main_v67 : Ref sig .tc := ⟨.hbm, 112, rfl⟩
abbrev main_v68 : Ref sig .tc := ⟨.hbm, 113, rfl⟩
abbrev main_c_32 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_33 : Ref sig .tc := ⟨.hbm, 119, rfl⟩
abbrev main_call5_v0 : Ref sig .tc := ⟨.hbm, 120, rfl⟩
abbrev main_call5_v1 : Ref sig .tc := ⟨.hbm, 121, rfl⟩
abbrev main_v73 : Ref sig .tc := ⟨.hbm, 122, rfl⟩
abbrev main_cst_34 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩

abbrev nD : Nat := 1
abbrev τ : Topo := Topo.v7x

variable {F : FTy → Type} [FloatOps F]
-- ==== Dgrad.lean ====
abbrev S2x1024x4096 : Shape := ⟨3, ![2, 1024, 4096]⟩
abbrev S4096 : Shape := ⟨1, ![4096]⟩
abbrev S4096x16384 : Shape := ⟨2, ![4096, 16384]⟩
abbrev S1 : Shape := ⟨1, ![1]⟩
abbrev S2x1024x16384 : Shape := ⟨3, ![2, 1024, 16384]⟩
abbrev S2048x4096 : Shape := ⟨2, ![2048, 4096]⟩
abbrev S2048x16384 : Shape := ⟨2, ![2048, 16384]⟩
abbrev S1x4096 : Shape := ⟨2, ![1, 4096]⟩
abbrev S3 : Shape := ⟨1, ![3]⟩
abbrev S512x4096 : Shape := ⟨2, ![512, 4096]⟩
abbrev S512x1024 : Shape := ⟨2, ![512, 1024]⟩
abbrev S4096x1024 : Shape := ⟨2, ![4096, 1024]⟩
abbrev S32x4096 : Shape := ⟨2, ![32, 4096]⟩
abbrev S32 : Shape := ⟨1, ![32]⟩
abbrev S32x1 : Shape := ⟨2, ![32, 1]⟩

abbrev nBuf : Space → Nat
  | .hbm => 17
  | .vmem => 15
  | .smem => 1
  | _ => 0

abbrev bufTy : (tb : Table) → Fin (tcTables nBuf tb) → BufTy
  | .hbm, ⟨0, _⟩ => ⟨S2x1024x4096, .bf16⟩
  | .hbm, ⟨1, _⟩ => ⟨S4096, .f32⟩
  | .hbm, ⟨2, _⟩ => ⟨S4096x16384, .fp8e4m3⟩
  | .hbm, ⟨3, _⟩ => ⟨S1, .f32⟩
  | .hbm, ⟨4, _⟩ => ⟨S2x1024x16384, .bf16⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S2048x4096, .bf16⟩
  | .hbm, ⟨9, _⟩ => ⟨S2048x16384, .bf16⟩
  | .hbm, ⟨10, _⟩ => ⟨S1x4096, .f32⟩
  | .hbm, ⟨11, _⟩ => ⟨S1, .f32⟩
  | .hbm, ⟨12, _⟩ => ⟨S3, .f32⟩
  | .hbm, ⟨13, _⟩ => ⟨S2048x4096, .bf16⟩
  | .hbm, ⟨14, _⟩ => ⟨S1x4096, .f32⟩
  | .hbm, ⟨15, _⟩ => ⟨S2048x4096, .fp8e4m3⟩
  | .hbm, ⟨16, _⟩ => ⟨S2048x16384, .fp8e5m2⟩
  | .local _ .vmem, ⟨0, _⟩ => ⟨S512x4096, .bf16⟩
  | .local _ .vmem, ⟨1, _⟩ => ⟨S512x4096, .bf16⟩
  | .local _ .vmem, ⟨2, _⟩ => ⟨S1x4096, .f32⟩
  | .local _ .vmem, ⟨3, _⟩ => ⟨S512x1024, .bf16⟩
  | .local _ .vmem, ⟨4, _⟩ => ⟨S512x1024, .bf16⟩
  | .local _ .vmem, ⟨5, _⟩ => ⟨S4096x1024, .fp8e4m3⟩
  | .local _ .vmem, ⟨6, _⟩ => ⟨S4096x1024, .fp8e4m3⟩
  | .local _ .vmem, ⟨7, _⟩ => ⟨S512x4096, .bf16⟩
  | .local _ .vmem, ⟨8, _⟩ => ⟨S512x4096, .bf16⟩
  | .local _ .vmem, ⟨9, _⟩ => ⟨S1x4096, .f32⟩
  | .local _ .vmem, ⟨10, _⟩ => ⟨S512x4096, .fp8e4m3⟩
  | .local _ .vmem, ⟨11, _⟩ => ⟨S512x4096, .fp8e4m3⟩
  | .local _ .vmem, ⟨12, _⟩ => ⟨S512x1024, .fp8e5m2⟩
  | .local _ .vmem, ⟨13, _⟩ => ⟨S512x1024, .fp8e5m2⟩
  | .local _ .vmem, ⟨14, _⟩ => ⟨S512x4096, .f32⟩
  | .local _ .smem, ⟨0, _⟩ => ⟨S3, .f32⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_15 : BitVec 32 := 0#32
  let v29 : BitVec 1 := Scalar.cmpi .ne v28 c0_i32_15
  v29

@[reducible] def k0_t1_loop : Scf.Loop 32 :=
  let c0_i32_16 : BitVec 32 := 0#32
  let c16_i32 : BitVec 32 := 16#32
  let v30 : BitVec 32 := Scalar.addi c0_i32_16 c16_i32
  let c1_i32 : BitVec 32 := 1#32
  ⟨c0_i32_16, v30, c1_i32⟩
def k0_off1 (k0_t1 : Fin k0_t1_loop.trips) : Fin 2 → Nat :=
  let c0_i32_16 : BitVec 32 := 0#32
  let c1_i32 : BitVec 32 := 1#32
  let arg12 : BitVec 32 := Scf.iv c0_i32_16 c1_i32 k0_t1
  let c32_i32 : BitVec 32 := 32#32
  let v31 : BitVec 32 := Scalar.muli arg12 c32_i32
  let v32 : Index := Scalar.indexCast v31
  let c0_18 : Index := 0#32
  ![v32.toNat, 0]
def k0_cond2 (i : grid0.Coords) : BitVec 1 :=
  let arg1 : BitVec 32 := BitVec.ofNat 32 (i 1).val
  let c0_i32_12 : BitVec 32 := 0#32
  let v22 : BitVec 1 := Scalar.cmpi .eq arg1 c0_i32_12
  let arg0 : BitVec 32 := BitVec.ofNat 32 (i 0).val
  let c0_i32_13 : BitVec 32 := 0#32
  let v23 : BitVec 1 := Scalar.cmpi .eq arg0 c0_i32_13
  let v24 : BitVec 1 := Scalar.andi v22 v23
  let v25 : BitVec 32 := Scalar.extui v24
  let c0_i32_14 : BitVec 32 := 0#32
  let v26 : BitVec 1 := Scalar.cmpi .ne v25 c0_i32_14
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DgradReferenceIdeal.lean ====
abbrev S2x1024x4096 : Shape := ⟨3, ![2, 1024, 4096]⟩
abbrev S4096 : Shape := ⟨1, ![4096]⟩
abbrev S4096x16384 : Shape := ⟨2, ![4096, 16384]⟩
abbrev S1 : Shape := ⟨1, ![1]⟩
abbrev S2x1024x16384 : Shape := ⟨3, ![2, 1024, 16384]⟩
abbrev S2048x4096 : Shape := ⟨2, ![2048, 4096]⟩
abbrev S2048x16384 : Shape := ⟨2, ![2048, 16384]⟩
abbrev S1x4096 : Shape := ⟨2, ![1, 4096]⟩
abbrev S2048 : Shape := ⟨1, ![2048]⟩
abbrev S2048x1 : Shape := ⟨2, ![2048, 1]⟩

abbrev nBuf : Space → Nat
  | .hbm => 15
  | .vmem => 8
  | .smem => 4
  | _ => 0

abbrev bufTy : (tb : Table) → Fin (tcTables nBuf tb) → BufTy
  | .hbm, ⟨0, _⟩ => ⟨S2x1024x4096, .bf16⟩
  | .hbm, ⟨1, _⟩ => ⟨S4096, .f32⟩
  | .hbm, ⟨2, _⟩ => ⟨S4096x16384, .fp8e4m3⟩
  | .hbm, ⟨3, _⟩ => ⟨S1, .f32⟩
  | .hbm, ⟨4, _⟩ => ⟨S2x1024x16384, .bf16⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S2048x4096, .bf16⟩
  | .hbm, ⟨9, _⟩ => ⟨S2048x16384, .bf16⟩
  | .hbm, ⟨10, _⟩ => ⟨S1x4096, .f32⟩
  | .hbm, ⟨11, _⟩ => ⟨S2048x4096, .bf16⟩
  | .hbm, ⟨12, _⟩ => ⟨S1x4096, .f32⟩
  | .hbm, ⟨13, _⟩ => ⟨S2048x4096, .fp8e4m3⟩
  | .hbm, ⟨14, _⟩ => ⟨S2048x16384, .fp8e5m2⟩
  | .local _ .vmem, ⟨0, _⟩ => ⟨S2048x4096, .bf16⟩
  | .local _ .vmem, ⟨1, _⟩ => ⟨S1x4096, .f32⟩
  | .local _ .vmem, ⟨2, _⟩ => ⟨S4096x16384, .fp8e4m3⟩
  | .local _ .vmem, ⟨3, _⟩ => ⟨S2048x16384, .bf16⟩
  | .local _ .vmem, ⟨4, _⟩ => ⟨S2048x4096, .bf16⟩
  | .local _ .vmem, ⟨5, _⟩ => ⟨S1x4096, .f32⟩
  | .local _ .vmem, ⟨6, _⟩ => ⟨S2048x4096, .fp8e4m3⟩
  | .local _ .vmem, ⟨7, _⟩ => ⟨S2048x16384, .fp8e5m2⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg3_0 : Ref sig .tc := ⟨.smem, 0, rfl⟩
abbrev cc0_stg5_0 : Ref sig .tc := ⟨.smem, 1, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x16384 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Wgrad.lean ====
abbrev S2048x4096 : Shape := ⟨2, ![2048, 4096]⟩
abbrev S2048x16384 : Shape := ⟨2, ![2048, 16384]⟩
abbrev S1 : Shape := ⟨1, ![1]⟩
abbrev S4096x16384 : Shape := ⟨2, ![4096, 16384]⟩
abbrev S2048x1024 : Shape := ⟨2, ![2048, 1024]⟩
abbrev S1024x1024 : Shape := ⟨2, ![1024, 1024]⟩

abbrev nBuf : Space → Nat
  | .hbm => 6
  | .vmem => 6
  | .smem => 1
  | _ => 0

abbrev bufTy : (tb : Table) → Fin (tcTables nBuf tb) → BufTy
  | .hbm, ⟨0, _⟩ => ⟨S2048x4096, .fp8e4m3⟩
  | .hbm, ⟨1, _⟩ => ⟨S2048x16384, .fp8e5m2⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S4096x16384, .f32⟩
  | .local _ .vmem, ⟨0, _⟩ => ⟨S2048x1024, .fp8e4m3⟩
  | .local _ .vmem, ⟨1, _⟩ => ⟨S2048x1024, .fp8e4m3⟩
  | .local _ .vmem, ⟨2, _⟩ => ⟨S2048x1024, .fp8e5m2⟩
  | .local _ .vmem, ⟨3, _⟩ => ⟨S2048x1024, .fp8e5m2⟩
  | .local _ .vmem, ⟨4, _⟩ => ⟨S1024x1024, .f32⟩
  | .local _ .vmem, ⟨5, _⟩ => ⟨S1024x1024, .f32⟩
  | .local _ .smem, ⟨0, _⟩ => ⟨S1, .f32⟩
  | _, _ => ⟨S2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== WgradReferenceIdeal.lean ====
abbrev S2048x4096 : Shape := ⟨2, ![2048, 4096]⟩
abbrev S2048x16384 : Shape := ⟨2, ![2048, 16384]⟩
abbrev S1 : Shape := ⟨1, ![1]⟩
abbrev S4096x16384 : Shape := ⟨2, ![4096, 16384]⟩

abbrev nBuf : Space → Nat
  | .hbm => 5
  | .vmem => 3
  | .smem => 2
  | _ => 0

abbrev bufTy : (tb : Table) → Fin (tcTables nBuf tb) → BufTy
  | .hbm, ⟨0, _⟩ => ⟨S2048x4096, .fp8e4m3⟩
  | .hbm, ⟨1, _⟩ => ⟨S2048x16384, .fp8e5m2⟩
  | .hbm, ⟨2, _⟩ => ⟨S1, .f32⟩
  | .hbm, ⟨3, _⟩ => ⟨S1, .f32⟩
  | .hbm, ⟨4, _⟩ => ⟨S4096x16384, .f32⟩
  | .local _ .vmem, ⟨0, _⟩ => ⟨S2048x4096, .fp8e4m3⟩
  | .local _ .vmem, ⟨1, _⟩ => ⟨S2048x16384, .fp8e5m2⟩
  | .local _ .vmem, ⟨2, _⟩ => ⟨S4096x16384, .f32⟩
  | .local _ .smem, ⟨0, _⟩ => ⟨S1, .f32⟩
  | .local _ .smem, ⟨1, _⟩ => ⟨S1, .f32⟩
  | _, _ => ⟨S2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x16384 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.DgradLoop.lean ====
/-
  The row loop of the input-gradient kernel stores into two outputs whose contents it never uses:
  what it stores does not depend on what those two buffers held before.
-/
module

public import proofs.«01_k».proof.Proof.Gen.Dgrad.Loops

@[expose] public section

set_option maxRecDepth 16384
set_option maxHeartbeats 4000000

noncomputable section

namespace Cert.Dgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One trip's stores do not depend on what the trip finds in the two outputs it only stores into. -/
theorem trip_free (𝒱 : Variants) (c : Dev nD) (bd : Option 𝒱.V) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (k0_h3 : k0_cond3 i = 1#1) (X_arg2 : BufTy.Contents (Elt F) arg2.view.ty) (X_arg3 : BufTy.Contents (Elt F) arg3.view.ty) (X_arg4 : BufTy.Contents (Elt F) arg4.view.ty) (X_arg11 : BufTy.Contents (Elt F) arg11.view.ty)
    (k : Fin k0_t1_loop.trips) (f_arg7 f_arg7' : BufTy.Contents (Elt F) arg7.view.ty) (f_arg8 : BufTy.Contents (Elt F) arg8.view.ty) (f_arg9 f_arg9' : BufTy.Contents (Elt F) arg9.view.ty) :
    tripL_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 k f_arg7 f_arg8 f_arg9
      = tripL_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 k f_arg7' f_arg8 f_arg9' := by
  unfold tripL_k0_t1 trip_k0_t1
  rfl

/-- Nor do the stores of the first `n` trips together. -/
theorem pb_free (𝒱 : Variants) (c : Dev nD) (bd : Option 𝒱.V) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (k0_h3 : k0_cond3 i = 1#1) (X_arg2 : BufTy.Contents (Elt F) arg2.view.ty) (X_arg3 : BufTy.Contents (Elt F) arg3.view.ty) (X_arg4 : BufTy.Contents (Elt F) arg4.view.ty) (X_arg11 : BufTy.Contents (Elt F) arg11.view.ty)
    (f_arg7 f_arg7' : BufTy.Contents (Elt F) arg7.view.ty) (f_arg8 : BufTy.Contents (Elt F) arg8.view.ty) (f_arg9 f_arg9' : BufTy.Contents (Elt F) arg9.view.ty) (n : ℕ) :
    pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7 f_arg8 f_arg9 n
      = pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n := by
  induction n with
  | zero => rfl
  | succ n ih =>
    by_cases h : n < k0_t1_loop.trips
    · have e := pb_k0_t1_succ (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7 f_arg8 f_arg9 ⟨n, h⟩
      have e' := pb_k0_t1_succ (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' ⟨n, h⟩
      refine e.trans (Eq.trans ?_ e'.symm)
      dsimp only
      rw [ih]
      have t := trip_free (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 ⟨n, h⟩
        (arg7.view.writes (Elt F) f_arg7 (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).1) (arg7.view.writes (Elt F) f_arg7' (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).1)
        (arg8.view.writes (Elt F) f_arg8 (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).2.1)
        (arg9.view.writes (Elt F) f_arg9 (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).2.2) (arg9.view.writes (Elt F) f_arg9' (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).2.2)
      exact congrArg (fun q => (q.1 ++ (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).1, q.2.1 ++ (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).2.1, q.2.2 ++ (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).2.2)) t
    · rw [pb_k0_t1.eq_2, pb_k0_t1.eq_2]
      unfold pb_k0_t1Step
      rw [dif_neg h, dif_neg h, ih]

end Cert.Dgrad.Gen

end
-- ==== Proof.DgradFrame.RunC.lean ====
/-
  One run of the kernel's body at the last block of the contraction, where the row loop runs.
-/
module

public import proofs.«01_k».proof.Proof.Gen.Dgrad.Frame.RunB
public import proofs.«01_k».proof.Proof.DgradLoop

@[expose] public section

-- membership in a rectangle of production extents (`View.cover_of_tiled`): the elaborator's structural look
-- recurses once per coordinate of the long axes
set_option maxRecDepth 16384

noncomputable section

namespace Cert.Dgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 15, 31, 47, 63), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) :
    Σ' (L5 : List (View.Piece (Elt F) S512x4096 .bf16)), Σ' (L6 : List (View.Piece (Elt F) S1x4096 .f32)), Σ' (L7 : List (View.Piece (Elt F) S512x4096 .fp8e4m3)), Σ' (L8 : List (View.Piece (Elt F) S512x1024 .fp8e5m2)), { LS0 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_dgrad_eq_skeleton]; unfold cc0_dgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    rw [pb_free (f_arg7' := arg7.view.junk) (f_arg9' := arg9.view.junk)]
    isplitl [H5]; · iexists _; iexact H5
    isplitl [H6]; · iexists _; iexact H6
    isplitl [H7]; · iexists _; iexact H7
    isplitl [H8]; · iexists _; iexact H8
    iexists _; iexact HS0

end Cert.Dgrad.Gen

end
-- ==== Proof.DgradFrame.RunD.lean ====
/-
  One run of the kernel's body at the first block of the contraction of a later row block.
-/
module

public import proofs.«01_k».proof.Proof.DgradFrame.RunC

@[expose] public section

-- membership in a rectangle of production extents (`View.cover_of_tiled`): the elaborator's structural look
-- recurses once per coordinate of the long axes
set_option maxRecDepth 16384

noncomputable section

namespace Cert.Dgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 taken, `scf.if` 1 not taken, `scf.if` 2 not taken: points 16, 32, 48), WITH the
    proof that on whole staging memrefs — the inputs' at their contents, the outputs it leaves idle (5, 6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) :
    Σ' (L5 : List (View.Piece (Elt F) S512x4096 .bf16)), Σ' (L6 : List (View.Piece (Elt F) S1x4096 .f32)), Σ' (L7 : List (View.Piece (Elt F) S512x4096 .fp8e4m3)), Σ' (L8 : List (View.Piece (Elt F) S512x1024 .fp8e5m2)), { LS0 : List (View.Piece (Elt F) S512x4096 .f32) //
      ∀ (xi5 : Vec F S512x4096 .bf16) (xi6 : Vec F S1x4096 .f32) (xi7 : Vec F S512x4096 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11) K } := by
  refine ⟨[], [], [], ?_, ?_, fun xi5 xi6 xi7 E K => ?run⟩
  case run =>
    simp only [cc0_dgrad_eq_skeleton]; unfold cc0_dgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Dgrad.Gen

end
-- ==== Proof.DgradFrame.Frame.lean ====
/-
  The program's runs end with every buffer as the program says: the run of the body at each grid point, chained.
-/
module

public import proofs.«01_k».proof.Proof.DgradFrame.RunD
public import Idealize.ShloMosaic.Lib.Claim

@[expose] public section

-- membership in a rectangle of production extents (`View.cover_of_tiled`): the elaborator's structural look
-- recurses once per coordinate of the long axes
set_option maxRecDepth 16384

noncomputable section

namespace Cert.Dgrad.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 hc2 x0 x1 x2 x3 x4).1)

/-- Case A's pieces for output 6 tile its block (1 store of `S1x4096`, checked by the kernel's evaluation: Lib/Ring.lean `Piece.tiledL`, linear in the pieces, through a loop's `@[irreducible]` trip theorem too), so they cover it. -/
theorem cover0_A_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (y : S1x4096.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.1 S1x4096.size (by sl_kernel_rfl) y

/-- What case A leaves in output 6's staging buffer: its pieces read back over junk. -/
def out0_A_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S1x4096 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 hc2 x0 x1 x2 x3 x4).2.1)

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .fp8e4m3 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.1)

/-- Case A's pieces for output 8 tile its block (1 store of `S512x1024`, checked by the kernel's evaluation: Lib/Ring.lean `Piece.tiledL`, linear in the pieces, through a loop's `@[irreducible]` trip theorem too), so they cover it. -/
theorem cover0_A_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (y : S512x1024.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1 S512x1024.size (by sl_kernel_rfl) y

/-- What case A leaves in output 8's staging buffer: its pieces read back over junk. -/
def out0_A_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x1024 .fp8e5m2 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1)

/-- Case A's pieces for scratch `arg11`, which the kernel carries between points, cover it: 2 pieces of `S512x4096` tiling it (Lib/Ring.lean `Piece.tiledL`). -/
theorem scover0_A_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (y : S512x4096.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1 S512x4096.size (by sl_kernel_rfl) y

/-- What case A leaves in scratch `arg11`: its pieces read back over junk. -/
def sout0_A_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) : Vec F S512x4096 .bf16 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 hc2 x0 x1 x2 x3 x4 xs0).1)

/-- Case B stores nothing into output 6 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) (xo6 : Vec F S1x4096 .f32) : Vec F S1x4096 .f32 := xo6

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) : Vec F S512x4096 .fp8e4m3 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.1)

/-- Case B's pieces for output 8 tile its block (1 store of `S512x1024`, checked by the kernel's evaluation: Lib/Ring.lean `Piece.tiledL`, linear in the pieces, through a loop's `@[irreducible]` trip theorem too), so they cover it. -/
theorem cover0_B_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) (y : S512x1024.Idx) :
    ∃ pc ∈ (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.1 S512x1024.size (by sl_kernel_rfl) y

/-- What case B leaves in output 8's staging buffer: its pieces read back over junk. -/
def out0_B_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) : Vec F S512x1024 .fp8e5m2 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.1)

/-- Case B's pieces for scratch `arg11`, which the kernel carries between points, cover it: 1 piece of `S512x4096` tiling it (Lib/Ring.lean `Piece.tiledL`). -/
theorem scover0_B_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) (y : S512x4096.Idx) :
    ∃ pc ∈ (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.2.1 S512x4096.size (by sl_kernel_rfl) y

/-- What case B leaves in scratch `arg11`: its pieces read back over junk. -/
def sout0_B_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) : Vec F S512x4096 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.2.1)

/-- Case C's pieces for output 5 tile its block (16 stores of `S32x4096`, checked by the kernel's evaluation: Lib/Ring.lean `Piece.tiledL`, linear in the pieces, through a loop's `@[irreducible]` trip theorem too), so they cover it. -/
theorem cover0_C_5 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) (y : S512x4096.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).1 S32x4096.size (by sl_kernel_rfl) y

/-- What case C leaves in output 5's staging buffer: its pieces read back over junk. -/
def out0_C_5 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) : Vec F S512x4096 .bf16 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).1)

/-- Case C's pieces for output 6 tile its block (16 stores of `S1x4096`, checked by the kernel's evaluation: Lib/Ring.lean `Piece.tiledL`, linear in the pieces, through a loop's `@[irreducible]` trip theorem too), so they cover it. -/
theorem cover0_C_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) (y : S1x4096.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.1 S1x4096.size (by sl_kernel_rfl) y

/-- What case C leaves in output 6's staging buffer: its pieces read back over junk. -/
def out0_C_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) : Vec F S1x4096 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.1)

/-- Case C's pieces for output 7 tile its block (16 stores of `S32x4096`, checked by the kernel's evaluation: Lib/Ring.lean `Piece.tiledL`, linear in the pieces, through a loop's `@[irreducible]` trip theorem too), so they cover it. -/
theorem cover0_C_7 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) (y : S512x4096.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.1 S32x4096.size (by sl_kernel_rfl) y

/-- What case C leaves in output 7's staging buffer: its pieces read back over junk. -/
def out0_C_7 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) : Vec F S512x4096 .fp8e4m3 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.1)

/-- Case C's pieces for output 8 tile its block (1 store of `S512x1024`, checked by the kernel's evaluation: Lib/Ring.lean `Piece.tiledL`, linear in the pieces, through a loop's `@[irreducible]` trip theorem too), so they cover it. -/
theorem cover0_C_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) (y : S512x1024.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.1 S512x1024.size (by sl_kernel_rfl) y

/-- What case C leaves in output 8's staging buffer: its pieces read back over junk. -/
def out0_C_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) : Vec F S512x1024 .fp8e5m2 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.1)

/-- Case C's pieces for scratch `arg11`, which the kernel carries between points, cover it: 1 piece of `S512x4096` tiling it (Lib/Ring.lean `Piece.tiledL`). -/
theorem scover0_C_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) (y : S512x4096.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.2.1 S512x4096.size (by sl_kernel_rfl) y

/-- What case C leaves in scratch `arg11`: its pieces read back over junk. -/
def sout0_C_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) : Vec F S512x4096 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.2.1)

/-- Case D stores nothing into output 5 (the window is idle at its points and not written back there):
    no pieces — a placeholder (junk read back) that nothing consults, since at these points the window is neither
    written back nor read at the next point (Lib/Pipeline.lean "Idle points"). -/
def out0_D_5 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .bf16 :=
  VO0_5.read (Elt F) (VO0_5.writes (Elt F) VO0_5.junk (kernelRun0_D c i arg2 harg2 arg3 harg3 arg4 harg4 arg5 harg5 arg6 harg6 arg7 harg7 arg8 harg8 arg9 harg9 arg10 harg10 arg11 harg11 hc0 hc1 hc2 x0 x1 x2 x3 x4).1)

/-- Case D stores nothing into output 6 (the window is idle at its points and not written back there) and another
    case keeps its prior contents (reads it before covering, or covers it in part): what its buffer holds after the body is what the
    point before left, CARRIED — an argument of this term alone, which the run does not take (Lib/Pipeline/TableIdle.lean `Dat.before_out_traj`). -/
def out0_D_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) : Vec F S1x4096 .f32 := xo6

/-- Case D stores nothing into output 7 (the window is idle at its points and not written back there):
    no pieces — a placeholder (junk read back) that nothing consults, since at these points the window is neither
    written back nor read at the next point (Lib/Pipeline.lean "Idle points"). -/
def out0_D_7 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .fp8e4m3 :=
  VO0_7.read (Elt F) (VO0_7.writes (Elt F) VO0_7.junk (kernelRun0_D c i arg2 harg2 arg3 harg3 arg4 harg4 arg5 harg5 arg6 harg6 arg7 harg7 arg8 harg8 arg9 harg9 arg10 harg10 arg11 harg11 hc0 hc1 hc2 x0 x1 x2 x3 x4).2.2.1)

/-- Case D's pieces for output 8 tile its block (1 store of `S512x1024`, checked by the kernel's evaluation: Lib/Ring.lean `Piece.tiledL`, linear in the pieces, through a loop's `@[irreducible]` trip theorem too), so they cover it. -/
theorem cover0_D_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (y : S512x1024.Idx) :
    ∃ pc ∈ (kernelRun0_D c i arg2 harg2 arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 x0 x1 x2 x3 x4).2.2.2.1 S512x1024.size (by sl_kernel_rfl) y

/-- What case D leaves in output 8's staging buffer: its pieces read back over junk. -/
def out0_D_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x1024 .fp8e5m2 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 hc0 hc1 hc2 x0 x1 x2 x3 x4).2.2.2.1)

/-- Case D's pieces for scratch `arg11`, which the kernel carries between points, cover it: 2 pieces of `S512x4096` tiling it (Lib/Ring.lean `Piece.tiledL`). -/
theorem scover0_D_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (y : S512x4096.Idx) :
    ∃ pc ∈ (kernelRun0_D c i arg2 harg2 arg3 harg3 arg4 harg4 arg5 harg5 arg6 harg6 arg7 harg7 arg8 harg8 arg9 harg9 arg10 harg10 arg11 harg11 hc0 hc1 hc2 x0 x1 x2 x3 x4).2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 x0 x1 x2 x3 x4).2.2.2.2.1 S512x4096.size (by sl_kernel_rfl) y

/-- What case D leaves in scratch `arg11`: its pieces read back over junk. -/
def sout0_D_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 hc0 hc1 hc2 x0 x1 x2 x3 x4).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x4096 .bf16 × Vec F S1x4096 .f32 × Vec F S512x4096 .fp8e4m3 × Vec F S512x1024 .fp8e5m2 × Vec F S512x4096 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 64 = 0 then
        if h2 : (n + 1) % 16 = 15 then
          False.elim (by have hN : n + 1 < 64 := lt_of_lt_of_eq hn (show cfg0.N = 64 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        if h2 : (n + 1) % 16 = 15 then
          False.elim (by have hN : n + 1 < 64 := lt_of_lt_of_eq hn (show cfg0.N = 64 from N_0); omega)
        else
          (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1, out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 64 = 0 then
        False.elim (by have hN : n + 1 < 64 := lt_of_lt_of_eq hn (show cfg0.N = 64 from N_0); omega)
      else
        if h2 : (n + 1) % 16 = 15 then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (outsAt0 c n (Nat.lt_of_succ_lt hn)).2.1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2)

/-- `outsAt0` at a point of case A: that case's contents. -/
theorem outsAt0_A (c : Dev nD) (t : Fin cfg0.N) (h0 : t.val % 16 = 0) (h1 : t.val % 64 = 0) (h2 : ¬t.val % 16 = 15) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 16 = 0) (h1 : ¬t.val % 64 = 0) (h2 : ¬t.val % 16 = 15) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (outsAt0 m c (t.val - 1) (Nat.lt_of_le_of_lt (Nat.sub_le _ _) t.isLt)).2.1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents, over what the point before left. -/
theorem outsAt0_C (c : Dev nD) (t : Fin cfg0.N) (h0 : ¬t.val % 16 = 0) (h1 : ¬t.val % 64 = 0) (h2 : t.val % 16 = 15) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case D: that case's contents, over what the point before left. -/
theorem outsAt0_D (c : Dev nD) (t : Fin cfg0.N) (h0 : t.val % 16 = 0) (h1 : ¬t.val % 64 = 0) (h2 : ¬t.val % 16 = 15) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t)) := by
  obtain ⟨n, hn⟩ := t
  cases n with
  | zero => exact (by exfalso; (try dsimp only at h1); exact absurd (Nat.zero_mod _) h1)
  | succ n => exact (dif_pos h0).trans ((dif_neg h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 64 := lt_of_lt_of_eq t.isLt (show cfg0.N = 64 from N_0)
  rw [after0_6, after0_6]
  by_cases h0 : t.val % 16 = 0
  · by_cases h1 : t.val % 64 = 0
    · by_cases h2 : t.val % 16 = 15
      · exfalso; omega
      · rw [liveAt0_6_A t ((hcond0_0 t).mpr h0) ((hcond0_1 t).mpr h1) (fun h => h2 ((hcond0_2 t).mp h))] at hi
        exact absurd hi Bool.false_ne_true
    · by_cases h2 : t.val % 16 = 15
      · exfalso; omega
      · rw [outsAt0_D m c t h0 h1 h2]
        dsimp only
        unfold out0_D_6
        rfl
  · by_cases h1 : t.val % 64 = 0
    · exfalso; omega
    · by_cases h2 : t.val % 16 = 15
      · rw [liveAt0_6_C t (fun h => h0 ((hcond0_0 t).mp h)) (fun h => h1 ((hcond0_1 t).mp h)) ((hcond0_2 t).mpr h2)] at hi
        exact absurd hi Bool.false_ne_true
      · rw [outsAt0_B m c t h0 h1 h2]
        dsimp only
        unfold out0_B_6
        rfl
/-- At a point of case C output 6's current staging buffer holds what the point before left: the buffer is not fresh
    there (`notFresh0_6_C`: stored into since the region's entry or the last write-back, carried through the points that
    leave it idle by `hcarry0_6`; Lib/Pipeline/TableIdle.lean `Dat.before_out_traj`). -/
theorem before0_6_C (c : Dev nD) (t : Fin cfg0.N) (h0 : ¬t.val % 16 = 0) (h1 : ¬t.val % 64 = 0) (h2 : t.val % 16 = 15) (d) :
    (dats m 0 c).before 6 t d = (outsAt0 m c (t.val - 1) (Nat.lt_of_le_of_lt (Nat.sub_le _ _) t.isLt)).2.1 := by
  rw [Dat.before_out_traj _ 6 rfl (fun _ _ => rfl) (hcarry0_6 m c) t.val t rfl d,
    if_neg (by rw [notFresh0_6_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases h1 : t.val % 64 = 0
    · by_cases h2 : t.val % 16 = 15
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_A t ((hcond0_0 t).mpr h0) ((hcond0_1 t).mpr h1) (fun h => h2 ((hcond0_2 t).mp h))) (noFlush0_5_A t ((hcond0_0 t).mpr h0) ((hcond0_1 t).mpr h1) (fun h => h2 ((hcond0_2 t).mp h)))]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        rw [Dat.leavesExact_idle (dats m 0 c) 7 t (idleAt0_7_A t ((hcond0_0 t).mpr h0) ((hcond0_1 t).mpr h1) (fun h => h2 ((hcond0_2 t).mp h))) (noFlush0_7_A t ((hcond0_0 t).mpr h0) ((hcond0_1 t).mpr h1) (fun h => h2 ((hcond0_2 t).mp h)))]
        rw [show (dats m 0 c).leavesExact 8 t = owns (c : Thread nD τ) (ms0_8 t) fullShare ((dats m 0 c).after 8 t) from by
      unfold Dat.leavesExact; rw [liveAt0_8 t], after0_8]
        by_cases hz : t.val = 0
        · rw [PhiS_castSucc m c t, PhiS_zero m c _ _ hz, PhiA0_eq]
          rw [outsAt0_A m c t h0 h1 h2]
          unfold out0_A_6 out0_A_8 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexact H7
          isplitl [H8]; · iexists _; iexact H8
          isplitl [HS0]; · iexact HS0
          iintro ⟨H0, H1, H2, H3, H4, H5, ⟨%e6, H6⟩, H7, ⟨%e8, H8⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          isplitl [H6]
          · unfold owns; iexists _; isplitr
            swap; · iexact H6
            ipureintro; exact View.read_writes_of_cover _ _ _ _ _ (cover0_A_6 c _ _ _ _ _ _ _ _ _ _ _ _ _ _ _ _ _ _ _ _ _ _ _ _ _ _ _ _ _)
          isplitl [H7]; · iexists _; iexact H7
          unfold owns; iexists _; isplitr
          swap; · iexact H8
          ipureintro; exact View.read_writes_of_cover _ _ _ _ _ (cover0_A_8 c _ _ _ _ _ _ _ _ _ _ _ _ _ _ _ _ _ _ _ _ _ _ _ _ _ _ _ _ _)
        · exfalso; have hN : t.val < 64 := lt_of_lt_of_eq t.isLt (show cfg0.N = 64 from N_0); omega
    · by_cases h2 : t.val % 16 = 15
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_D t ((hcond0_0 t).mpr h0) (fun h => h1 ((hcond0_1 t).mp h)) (fun h => h2 ((hcond0_2 t).mp h))) (noFlush0_5_D t ((hcond0_0 t).mpr h0) (fun h => h1 ((hcond0_1 t).mp h)) (fun h => h2 ((hcond0_2 t).mp h)))]
        rw [Dat.leavesExact_idle (dats m 0 c) 6 t (idleAt0_6_D t ((hcond0_0 t).mpr h0) (fun h => h1 ((hcond0_1 t).mp h)) (fun h => h2 ((hcond0_2 t).mp h))) (noFlush0_6_D t ((hcond0_0 t).mpr h0) (fun h => h1 ((hcond0_1 t).mp h)) (fun h => h2 ((hcond0_2 t).mp h)))]
        rw [Dat.leavesExact_idle (dats m 0 c) 7 t (idleAt0_7_D t ((hcond0_0 t).mpr h0) (fun h => h1 ((hcond0_1 t).mp h)) (fun h => h2 ((hcond0_2 t).mp h))) (noFlush0_7_D t ((hcond0_0 t).mpr h0) (fun h => h1 ((hcond0_1 t).mp h)) (fun h => h2 ((hcond0_2 t).mp h)))]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 64 := lt_of_lt_of_eq t.isLt (show cfg0.N = 64 from N_0); omega
        · rw [PhiS_castSucc m c t, PhiS_pos m c _ _ hz]
          rw [outsAt0_D m c t h0 h1 h2]
          unfold out0_D_8 sout0_D_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_D c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t)).2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexists _; iexact HS0
          iintro ⟨H0, H1, H2, H3, H4, H5, H6, H7, ⟨%e8, H8⟩, ⟨%es0, HS0⟩⟩
          isplitl [HS0 Hg]
          · isplitl [HS0]
            · unfold owns; iexists _; isplitr
              swap; · iexact HS0
              ipureintro; exact View.read_writes_of_cover _ _ _ _ _ (scover0_D_0 c _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          unfold owns; iexists _; isplitr
          swap; · iexact H8
          ipureintro; exact View.read_writes_of_cover _ _ _ _ _ (cover0_D_8 c _ _ _ _ _ _ _ _ _ _ _ _ _ _ _ _ _ _ _ _ _ _ _ _ _ _ _ _ _)
  · by_cases h1 : t.val % 64 = 0
    · exfalso; omega
    · by_cases h2 : t.val % 16 = 15
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2)], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2)], after0_6]
        rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2)], after0_7]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 64 := lt_of_lt_of_eq t.isLt (show cfg0.N = 64 from N_0); omega
        · rw [PhiS_castSucc m c t, PhiS_pos m c _ _ hz]
          rw [outsAt0_C m c t h0 h1 h2]
          simp only [before0_6_C m c t h0 h1 h2]
          unfold out0_C_5 out0_C_6 out0_C_7 out0_C_8 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _).2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexact H6
          isplitl [H7]; · iexists _; iexact H7
          isplitl [H8]; · iexists _; iexact H8
          isplitl [HS0]; · iexact HS0
          iintro ⟨H0, H1, H2, H3, H4, ⟨%e5, H5⟩, ⟨%e6, H6⟩, ⟨%e7, H7⟩, ⟨%e8, H8⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_C_5 c _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_C_6 c _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_C_7 c _ _ _ _ _ _ _ _ _ _ _ _ _ _ _ _ _ _ _ _ _ _ _ _ _ _ _ _ _ _ _)
          unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_B t (fun h => h0 ((hcond0_0 t).mp h)) (fun h => h1 ((hcond0_1 t).mp h)) (fun h => h2 ((hcond0_2 t).mp h))) (noFlush0_5_B t (fun h => h0 ((hcond0_0 t).mp h)) (fun h => h1 ((hcond0_1 t).mp h)) (fun h => h2 ((hcond0_2 t).mp h)))]
        rw [Dat.leavesExact_idle (dats m 0 c) 6 t (idleAt0_6_B t (fun h => h0 ((hcond0_0 t).mp h)) (fun h => h1 ((hcond0_1 t).mp h)) (fun h => h2 ((hcond0_2 t).mp h))) (noFlush0_6_B t (fun h => h0 ((hcond0_0 t).mp h)) (fun h => h1 ((hcond0_1 t).mp h)) (fun h => h2 ((hcond0_2 t).mp h)))]
        rw [Dat.leavesExact_idle (dats m 0 c) 7 t (idleAt0_7_B t (fun h => h0 ((hcond0_0 t).mp h)) (fun h => h1 ((hcond0_1 t).mp h)) (fun h => h2 ((hcond0_2 t).mp h))) (noFlush0_7_B t (fun h => h0 ((hcond0_0 t).mp h)) (fun h => h1 ((hcond0_1 t).mp h)) (fun h => h2 ((hcond0_2 t).mp h)))]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 64 := lt_of_lt_of_eq t.isLt (show cfg0.N = 64 from N_0); omega
        · rw [PhiS_castSucc m c t, PhiS_pos m c _ _ hz]
          rw [outsAt0_B m c t h0 h1 h2]
          unfold out0_B_8 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) _).2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          iintro ⟨H0, H1, H2, H3, H4, H5, H6, H7, ⟨%e8, H8⟩, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Dgrad`'s statement (Defs.lean) at any `F` — Proof.lean cites it at `Bits`:
    `theorem Cert.Proof.claim : Cert.Claim := ⟨Cert.Dgrad.Gen.facts, fun m ρ _ => Cert.Dgrad.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Dgrad.Gen

end
-- ==== Proof.DgradIdealLoop.lean ====
/-
  The row loop of the input-gradient kernel stores into two outputs whose contents it never uses:
  what it stores does not depend on what those two buffers held before.
-/
module

public import proofs.«01_k».proof.Proof.Gen.DgradIdeal.Loops

@[expose] public section

set_option maxRecDepth 16384
set_option maxHeartbeats 4000000

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One trip's stores do not depend on what the trip finds in the two outputs it only stores into. -/
theorem trip_free (𝒱 : Variants) (c : Dev nD) (bd : Option 𝒱.V) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (k0_h3 : k0_cond3 i = 1#1) (X_arg2 : BufTy.Contents (Elt F) arg2.view.ty) (X_arg3 : BufTy.Contents (Elt F) arg3.view.ty) (X_arg4 : BufTy.Contents (Elt F) arg4.view.ty) (X_arg11 : BufTy.Contents (Elt F) arg11.view.ty)
    (k : Fin k0_t1_loop.trips) (f_arg7 f_arg7' : BufTy.Contents (Elt F) arg7.view.ty) (f_arg8 : BufTy.Contents (Elt F) arg8.view.ty) (f_arg9 f_arg9' : BufTy.Contents (Elt F) arg9.view.ty) :
    tripL_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 k f_arg7 f_arg8 f_arg9
      = tripL_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 k f_arg7' f_arg8 f_arg9' := by
  unfold tripL_k0_t1 trip_k0_t1
  rfl

/-- Nor do the stores of the first `n` trips together. -/
theorem pb_free (𝒱 : Variants) (c : Dev nD) (bd : Option 𝒱.V) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (k0_h3 : k0_cond3 i = 1#1) (X_arg2 : BufTy.Contents (Elt F) arg2.view.ty) (X_arg3 : BufTy.Contents (Elt F) arg3.view.ty) (X_arg4 : BufTy.Contents (Elt F) arg4.view.ty) (X_arg11 : BufTy.Contents (Elt F) arg11.view.ty)
    (f_arg7 f_arg7' : BufTy.Contents (Elt F) arg7.view.ty) (f_arg8 : BufTy.Contents (Elt F) arg8.view.ty) (f_arg9 f_arg9' : BufTy.Contents (Elt F) arg9.view.ty) (n : ℕ) :
    pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7 f_arg8 f_arg9 n
      = pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n := by
  induction n with
  | zero => rfl
  | succ n ih =>
    by_cases h : n < k0_t1_loop.trips
    · have e := pb_k0_t1_succ (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7 f_arg8 f_arg9 ⟨n, h⟩
      have e' := pb_k0_t1_succ (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' ⟨n, h⟩
      refine e.trans (Eq.trans ?_ e'.symm)
      dsimp only
      rw [ih]
      have t := trip_free (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 ⟨n, h⟩
        (arg7.view.writes (Elt F) f_arg7 (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).1) (arg7.view.writes (Elt F) f_arg7' (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).1)
        (arg8.view.writes (Elt F) f_arg8 (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).2.1)
        (arg9.view.writes (Elt F) f_arg9 (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).2.2) (arg9.view.writes (Elt F) f_arg9' (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).2.2)
      exact congrArg (fun q => (q.1 ++ (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).1, q.2.1 ++ (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).2.1, q.2.2 ++ (pb_k0_t1 (F := F) 𝒱 c bd i arg2 harg2 arg3 harg3 arg4 harg4 arg5 harg5 arg6 harg6 arg7 harg7 arg8 harg8 arg9 harg9 arg10 harg10 arg11 harg11 k0_h3 X_arg2 X_arg3 X_arg4 X_arg11 f_arg7' f_arg8 f_arg9' n).2.2)) t
    · rw [pb_k0_t1.eq_2, pb_k0_t1.eq_2]
      unfold pb_k0_t1Step
      rw [dif_neg h, dif_neg h, ih]

end Cert.DgradIdeal.Gen

end
-- ==== Proof.DgradIdealFrame.RunC.lean ====
/-
  One run of the kernel's body at the last block of the contraction, where the row loop runs.
-/
module

public import proofs.«01_k».proof.Proof.Gen.DgradIdeal.Frame.RunB
public import proofs.«01_k».proof.Proof.DgradIdealLoop

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 15, 31, 47, 63), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) :
    Σ' (L5 : List (View.Piece (Elt F) S512x4096 .bf16)), Σ' (L6 : List (View.Piece (Elt F) S1x4096 .f32)), Σ' (L7 : List (View.Piece (Elt F) S512x4096 .fp8e4m3)), Σ' (L8 : List (View.Piece (Elt F) S512x1024 .fp8e5m2)), { LS0 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_dgrad_eq_skeleton]; unfold cc0_dgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    rw [pb_free (f_arg7' := arg7.view.junk) (f_arg9' := arg9.view.junk)]
    isplitl [H5]; · iexists _; iexact H5
    isplitl [H6]; · iexists _; iexact H6
    isplitl [H7]; · iexists _; iexact H7
    isplitl [H8]; · iexists _; iexact H8
    iexists _; iexact HS0

end Cert.DgradIdeal.Gen

end
-- ==== Proof.DgradIdealFrame.RunD.lean ====
/-
  One run of the kernel's body at the first block of the contraction of a later row block.
-/
module

public import proofs.«01_k».proof.Proof.DgradIdealFrame.RunC

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 taken, `scf.if` 1 not taken, `scf.if` 2 not taken: points 16, 32, 48), WITH the
    proof that on whole staging memrefs — the inputs' at their contents, the outputs it leaves idle (5, 6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) :
    Σ' (L5 : List (View.Piece (Elt F) S512x4096 .bf16)), Σ' (L6 : List (View.Piece (Elt F) S1x4096 .f32)), Σ' (L7 : List (View.Piece (Elt F) S512x4096 .fp8e4m3)), Σ' (L8 : List (View.Piece (Elt F) S512x1024 .fp8e5m2)), { LS0 : List (View.Piece (Elt F) S512x4096 .f32) //
      ∀ (xi5 : Vec F S512x4096 .bf16) (xi6 : Vec F S1x4096 .f32) (xi7 : Vec F S512x4096 .fp8e4m3) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11) K } := by
  refine ⟨[], [], [], ?_, ?_, fun xi5 xi6 xi7 E K => ?run⟩
  case run =>
    simp only [cc0_dgrad_eq_skeleton]; unfold cc0_dgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.DgradIdeal.Gen

end
-- ==== Proof.DgradIdealFrame.Frame.lean ====
/-
  The program's runs end with every buffer as the program says: the run of the body at each grid point, chained.
-/
module

public import proofs.«01_k».proof.Proof.DgradIdealFrame.RunD
public import Idealize.ShloMosaic.Lib.Claim

@[expose] public section

-- membership in a rectangle of production extents (`View.cover_of_tiled`): the elaborator's structural look
-- recurses once per coordinate of the long axes
set_option maxRecDepth 16384

noncomputable section

namespace Cert.DgradIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 hc2 x0 x1 x2 x3 x4).1)

/-- Case A's pieces for output 6 tile its block (1 store of `S1x4096`, checked by the kernel's evaluation: Lib/Ring.lean `Piece.tiledL`, linear in the pieces, through a loop's `@[irreducible]` trip theorem too), so they cover it. -/
theorem cover0_A_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (y : S1x4096.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.1 S1x4096.size (by sl_kernel_rfl) y

/-- What case A leaves in output 6's staging buffer: its pieces read back over junk. -/
def out0_A_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S1x4096 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 hc2 x0 x1 x2 x3 x4).2.1)

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .fp8e4m3 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.1)

/-- Case A's pieces for output 8 tile its block (1 store of `S512x1024`, checked by the kernel's evaluation: Lib/Ring.lean `Piece.tiledL`, linear in the pieces, through a loop's `@[irreducible]` trip theorem too), so they cover it. -/
theorem cover0_A_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (y : S512x1024.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1 S512x1024.size (by sl_kernel_rfl) y

/-- What case A leaves in output 8's staging buffer: its pieces read back over junk. -/
def out0_A_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x1024 .fp8e5m2 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.2.1)

/-- Case A's pieces for scratch `arg11`, which the kernel carries between points, cover it: 2 pieces of `S512x4096` tiling it (Lib/Ring.lean `Piece.tiledL`). -/
theorem scover0_A_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (y : S512x4096.Idx) :
    ∃ pc ∈ (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1 S512x4096.size (by sl_kernel_rfl) y

/-- What case A leaves in scratch `arg11`: its pieces read back over junk. -/
def sout0_A_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 hc2 x0 x1 x2 x3 x4).2.2.2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) : Vec F S512x4096 .bf16 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 hc2 x0 x1 x2 x3 x4 xs0).1)

/-- Case B stores nothing into output 6 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) (xo6 : Vec F S1x4096 .f32) : Vec F S1x4096 .f32 := xo6

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) : Vec F S512x4096 .fp8e4m3 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.1)

/-- Case B's pieces for output 8 tile its block (1 store of `S512x1024`, checked by the kernel's evaluation: Lib/Ring.lean `Piece.tiledL`, linear in the pieces, through a loop's `@[irreducible]` trip theorem too), so they cover it. -/
theorem cover0_B_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) (y : S512x1024.Idx) :
    ∃ pc ∈ (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.1 S512x1024.size (by sl_kernel_rfl) y

/-- What case B leaves in output 8's staging buffer: its pieces read back over junk. -/
def out0_B_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) : Vec F S512x1024 .fp8e5m2 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.1)

/-- Case B's pieces for scratch `arg11`, which the kernel carries between points, cover it: 1 piece of `S512x4096` tiling it (Lib/Ring.lean `Piece.tiledL`). -/
theorem scover0_B_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) (y : S512x4096.Idx) :
    ∃ pc ∈ (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.2.1 S512x4096.size (by sl_kernel_rfl) y

/-- What case B leaves in scratch `arg11`: its pieces read back over junk. -/
def sout0_B_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xs0 : Vec F S512x4096 .f32) : Vec F S512x4096 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 hc2 x0 x1 x2 x3 x4 xs0).2.2.2.2.1)

/-- Case C's pieces for output 5 tile its block (16 stores of `S32x4096`, checked by the kernel's evaluation: Lib/Ring.lean `Piece.tiledL`, linear in the pieces, through a loop's `@[irreducible]` trip theorem too), so they cover it. -/
theorem cover0_C_5 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) (y : S512x4096.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).1 S32x4096.size (by sl_kernel_rfl) y

/-- What case C leaves in output 5's staging buffer: its pieces read back over junk. -/
def out0_C_5 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) : Vec F S512x4096 .bf16 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).1)

/-- Case C's pieces for output 6 tile its block (16 stores of `S1x4096`, checked by the kernel's evaluation: Lib/Ring.lean `Piece.tiledL`, linear in the pieces, through a loop's `@[irreducible]` trip theorem too), so they cover it. -/
theorem cover0_C_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) (y : S1x4096.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.1 S1x4096.size (by sl_kernel_rfl) y

/-- What case C leaves in output 6's staging buffer: its pieces read back over junk. -/
def out0_C_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) : Vec F S1x4096 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.1)

/-- Case C's pieces for output 7 tile its block (16 stores of `S32x4096`, checked by the kernel's evaluation: Lib/Ring.lean `Piece.tiledL`, linear in the pieces, through a loop's `@[irreducible]` trip theorem too), so they cover it. -/
theorem cover0_C_7 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) (y : S512x4096.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.1 S32x4096.size (by sl_kernel_rfl) y

/-- What case C leaves in output 7's staging buffer: its pieces read back over junk. -/
def out0_C_7 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) : Vec F S512x4096 .fp8e4m3 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.1)

/-- Case C's pieces for output 8 tile its block (1 store of `S512x1024`, checked by the kernel's evaluation: Lib/Ring.lean `Piece.tiledL`, linear in the pieces, through a loop's `@[irreducible]` trip theorem too), so they cover it. -/
theorem cover0_C_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) (y : S512x1024.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.1 S512x1024.size (by sl_kernel_rfl) y

/-- What case C leaves in output 8's staging buffer: its pieces read back over junk. -/
def out0_C_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) : Vec F S512x1024 .fp8e5m2 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.1)

/-- Case C's pieces for scratch `arg11`, which the kernel carries between points, cover it: 1 piece of `S512x4096` tiling it (Lib/Ring.lean `Piece.tiledL`). -/
theorem scover0_C_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) (y : S512x4096.Idx) :
    ∃ pc ∈ (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.2.1 S512x4096.size (by sl_kernel_rfl) y

/-- What case C leaves in scratch `arg11`: its pieces read back over junk. -/
def sout0_C_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : ¬cond0_0 i) (hc1 : ¬cond0_1 i) (hc2 : cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) (xs0 : Vec F S512x4096 .f32) : Vec F S512x4096 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 hc2 x0 x1 x2 x3 x4 xo6 xs0).2.2.2.2.1)

/-- Case D stores nothing into output 5 (the window is idle at its points and not written back there):
    no pieces — a placeholder (junk read back) that nothing consults, since at these points the window is neither
    written back nor read at the next point (Lib/Pipeline.lean "Idle points"). -/
def out0_D_5 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .bf16 :=
  VO0_5.read (Elt F) (VO0_5.writes (Elt F) VO0_5.junk (kernelRun0_D c i arg2 harg2 arg3 harg3 arg4 harg4 arg5 harg5 arg6 harg6 arg7 harg7 arg8 harg8 arg9 harg9 arg10 harg10 arg11 harg11 hc0 hc1 hc2 x0 x1 x2 x3 x4).1)

/-- Case D stores nothing into output 6 (the window is idle at its points and not written back there) and another
    case keeps its prior contents (reads it before covering, or covers it in part): what its buffer holds after the body is what the
    point before left, CARRIED — an argument of this term alone, which the run does not take (Lib/Pipeline/TableIdle.lean `Dat.before_out_traj`). -/
def out0_D_6 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (xo6 : Vec F S1x4096 .f32) : Vec F S1x4096 .f32 := xo6

/-- Case D stores nothing into output 7 (the window is idle at its points and not written back there):
    no pieces — a placeholder (junk read back) that nothing consults, since at these points the window is neither
    written back nor read at the next point (Lib/Pipeline.lean "Idle points"). -/
def out0_D_7 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .fp8e4m3 :=
  VO0_7.read (Elt F) (VO0_7.writes (Elt F) VO0_7.junk (kernelRun0_D c i arg2 harg2 arg3 harg3 arg4 harg4 arg5 harg5 arg6 harg6 arg7 harg7 arg8 harg8 arg9 harg9 arg10 harg10 arg11 harg11 hc0 hc1 hc2 x0 x1 x2 x3 x4).2.2.1)

/-- Case D's pieces for output 8 tile its block (1 store of `S512x1024`, checked by the kernel's evaluation: Lib/Ring.lean `Piece.tiledL`, linear in the pieces, through a loop's `@[irreducible]` trip theorem too), so they cover it. -/
theorem cover0_D_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (y : S512x1024.Idx) :
    ∃ pc ∈ (kernelRun0_D c i arg2 harg2 arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 x0 x1 x2 x3 x4).2.2.2.1 S512x1024.size (by sl_kernel_rfl) y

/-- What case D leaves in output 8's staging buffer: its pieces read back over junk. -/
def out0_D_8 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x1024 .fp8e5m2 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 hc0 hc1 hc2 x0 x1 x2 x3 x4).2.2.2.1)

/-- Case D's pieces for scratch `arg11`, which the kernel carries between points, cover it: 2 pieces of `S512x4096` tiling it (Lib/Ring.lean `Piece.tiledL`). -/
theorem scover0_D_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) (y : S512x4096.Idx) :
    ∃ pc ∈ (kernelRun0_D c i arg2 harg2 arg3 harg3 arg4 harg4 arg5 harg5 arg6 harg6 arg7 harg7 arg8 harg8 arg9 harg9 arg10 harg10 arg11 harg11 hc0 hc1 hc2 x0 x1 x2 x3 x4).2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 hc0 hc1 hc2 x0 x1 x2 x3 x4).2.2.2.2.1 S512x4096.size (by sl_kernel_rfl) y

/-- What case D leaves in scratch `arg11`: its pieces read back over junk. -/
def sout0_D_0 (c : Dev nD) (i : grid0.Coords) (arg2 : Memref sig .tc .smem S3 .f32) (harg2 : arg2.IsWhole) (arg3 : Memref sig .tc .vmem S512x4096 .bf16) (harg3 : arg3.IsWhole) (arg4 : Memref sig .tc .vmem S1x4096 .f32) (harg4 : arg4.IsWhole) (arg5 : Memref sig .tc .vmem S512x1024 .bf16) (harg5 : arg5.IsWhole) (arg6 : Memref sig .tc .vmem S4096x1024 .fp8e4m3) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S512x4096 .fp8e4m3) (harg9 : arg9.IsWhole) (arg10 : Memref sig .tc .vmem S512x1024 .fp8e5m2) (harg10 : arg10.IsWhole) (arg11 : Memref sig .tc .vmem S512x4096 .f32) (harg11 : arg11.IsWhole) (hc0 : cond0_0 i) (hc1 : ¬cond0_1 i) (hc2 : ¬cond0_2 i)
    (x0 : Vec F S3 .f32) (x1 : Vec F S512x4096 .bf16) (x2 : Vec F S1x4096 .f32) (x3 : Vec F S512x1024 .bf16) (x4 : Vec F S4096x1024 .fp8e4m3) : Vec F S512x4096 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 hc0 hc1 hc2 x0 x1 x2 x3 x4).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x4096 .bf16 × Vec F S1x4096 .f32 × Vec F S512x4096 .fp8e4m3 × Vec F S512x1024 .fp8e5m2 × Vec F S512x4096 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 64 = 0 then
        if h2 : (n + 1) % 16 = 15 then
          False.elim (by have hN : n + 1 < 64 := lt_of_lt_of_eq hn (show cfg0.N = 64 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        if h2 : (n + 1) % 16 = 15 then
          False.elim (by have hN : n + 1 < 64 := lt_of_lt_of_eq hn (show cfg0.N = 64 from N_0); omega)
        else
          (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1, out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 64 = 0 then
        False.elim (by have hN : n + 1 < 64 := lt_of_lt_of_eq hn (show cfg0.N = 64 from N_0); omega)
      else
        if h2 : (n + 1) % 16 = 15 then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.2.2)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (outsAt0 c n (Nat.lt_of_succ_lt hn)).2.1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2)

/-- `outsAt0` at a point of case A: that case's contents. -/
theorem outsAt0_A (c : Dev nD) (t : Fin cfg0.N) (h0 : t.val % 16 = 0) (h1 : t.val % 64 = 0) (h2 : ¬t.val % 16 = 15) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 16 = 0) (h1 : ¬t.val % 64 = 0) (h2 : ¬t.val % 16 = 15) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (outsAt0 m c (t.val - 1) (Nat.lt_of_le_of_lt (Nat.sub_le _ _) t.isLt)).2.1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents, over what the point before left. -/
theorem outsAt0_C (c : Dev nD) (t : Fin cfg0.N) (h0 : ¬t.val % 16 = 0) (h1 : ¬t.val % 64 = 0) (h2 : t.val % 16 = 15) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case D: that case's contents, over what the point before left. -/
theorem outsAt0_D (c : Dev nD) (t : Fin cfg0.N) (h0 : t.val % 16 = 0) (h1 : ¬t.val % 64 = 0) (h2 : ¬t.val % 16 = 15) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t)) := by
  obtain ⟨n, hn⟩ := t
  cases n with
  | zero => exact (by exfalso; (try dsimp only at h1); exact absurd (Nat.zero_mod _) h1)
  | succ n => exact (dif_pos h0).trans ((dif_neg h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 6's contents CARRY through the points that leave it idle: at such a point, its buffer not fresh, the proof data's
    `after` is the point before's (the case there stores nothing into the window and its term says so; a case that stores
    into it is not idle there by `liveAt0_6_κ`) — the hypothesis of Lib/Pipeline/TableIdle.lean `Dat.before_out_traj`. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 64 := lt_of_lt_of_eq t.isLt (show cfg0.N = 64 from N_0)
  rw [after0_6, after0_6]
  by_cases h0 : t.val % 16 = 0
  · by_cases h1 : t.val % 64 = 0
    · by_cases h2 : t.val % 16 = 15
      · exfalso; omega
      · rw [liveAt0_6_A t ((hcond0_0 t).mpr h0) ((hcond0_1 t).mpr h1) (fun h => h2 ((hcond0_2 t).mp h))] at hi
        exact absurd hi Bool.false_ne_true
    · by_cases h2 : t.val % 16 = 15
      · exfalso; omega
      · rw [outsAt0_D m c t h0 h1 h2]
        dsimp only
        unfold out0_D_6
        rfl
  · by_cases h1 : t.val % 64 = 0
    · exfalso; omega
    · by_cases h2 : t.val % 16 = 15
      · rw [liveAt0_6_C t (fun h => h0 ((hcond0_0 t).mp h)) (fun h => h1 ((hcond0_1 t).mp h)) ((hcond0_2 t).mpr h2)] at hi
        exact absurd hi Bool.false_ne_true
      · rw [outsAt0_B m c t h0 h1 h2]
        dsimp only
        unfold out0_B_6
        rfl
/-- At a point of case C output 6's current staging buffer holds what the point before left: the buffer is not fresh
    there (`notFresh0_6_C`: stored into since the region's entry or the last write-back, carried through the points that
    leave it idle by `hcarry0_6`; Lib/Pipeline/TableIdle.lean `Dat.before_out_traj`). -/
theorem before0_6_C (c : Dev nD) (t : Fin cfg0.N) (h0 : ¬t.val % 16 = 0) (h1 : ¬t.val % 64 = 0) (h2 : t.val % 16 = 15) (d) :
    (dats m 0 c).before 6 t d = (outsAt0 m c (t.val - 1) (Nat.lt_of_le_of_lt (Nat.sub_le _ _) t.isLt)).2.1 := by
  rw [Dat.before_out_traj _ 6 rfl (fun _ _ => rfl) (hcarry0_6 m c) t.val t rfl d,
    if_neg (by rw [notFresh0_6_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases h1 : t.val % 64 = 0
    · by_cases h2 : t.val % 16 = 15
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_A t ((hcond0_0 t).mpr h0) ((hcond0_1 t).mpr h1) (fun h => h2 ((hcond0_2 t).mp h))) (noFlush0_5_A t ((hcond0_0 t).mpr h0) ((hcond0_1 t).mpr h1) (fun h => h2 ((hcond0_2 t).mp h)))]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        rw [Dat.leavesExact_idle (dats m 0 c) 7 t (idleAt0_7_A t ((hcond0_0 t).mpr h0) ((hcond0_1 t).mpr h1) (fun h => h2 ((hcond0_2 t).mp h))) (noFlush0_7_A t ((hcond0_0 t).mpr h0) ((hcond0_1 t).mpr h1) (fun h => h2 ((hcond0_2 t).mp h)))]
        rw [show (dats m 0 c).leavesExact 8 t = owns (c : Thread nD τ) (ms0_8 t) fullShare ((dats m 0 c).after 8 t) from by
      unfold Dat.leavesExact; rw [liveAt0_8 t], after0_8]
        by_cases hz : t.val = 0
        · rw [PhiS_castSucc m c t, PhiS_zero m c _ _ hz, PhiA0_eq]
          rw [outsAt0_A m c t h0 h1 h2]
          unfold out0_A_6 out0_A_8 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexact H7
          isplitl [H8]; · iexists _; iexact H8
          isplitl [HS0]; · iexact HS0
          iintro ⟨H0, H1, H2, H3, H4, H5, ⟨%e6, H6⟩, H7, ⟨%e8, H8⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          isplitl [H6]
          · unfold owns; iexists _; isplitr
            swap; · iexact H6
            ipureintro; exact View.read_writes_of_cover _ _ _ _ _ (cover0_A_6 c _ _ _ _ _ _ _ _ _ _ _ _ _ _ _ _ _ _ _ _ _ _ _ _ _ _ _ _ _)
          isplitl [H7]; · iexists _; iexact H7
          unfold owns; iexists _; isplitr
          swap; · iexact H8
          ipureintro; exact View.read_writes_of_cover _ _ _ _ _ (cover0_A_8 c _ _ _ _ _ _ _ _ _ _ _ _ _ _ _ _ _ _ _ _ _ _ _ _ _ _ _ _ _)
        · exfalso; have hN : t.val < 64 := lt_of_lt_of_eq t.isLt (show cfg0.N = 64 from N_0); omega
    · by_cases h2 : t.val % 16 = 15
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_D t ((hcond0_0 t).mpr h0) (fun h => h1 ((hcond0_1 t).mp h)) (fun h => h2 ((hcond0_2 t).mp h))) (noFlush0_5_D t ((hcond0_0 t).mpr h0) (fun h => h1 ((hcond0_1 t).mp h)) (fun h => h2 ((hcond0_2 t).mp h)))]
        rw [Dat.leavesExact_idle (dats m 0 c) 6 t (idleAt0_6_D t ((hcond0_0 t).mpr h0) (fun h => h1 ((hcond0_1 t).mp h)) (fun h => h2 ((hcond0_2 t).mp h))) (noFlush0_6_D t ((hcond0_0 t).mpr h0) (fun h => h1 ((hcond0_1 t).mp h)) (fun h => h2 ((hcond0_2 t).mp h)))]
        rw [Dat.leavesExact_idle (dats m 0 c) 7 t (idleAt0_7_D t ((hcond0_0 t).mpr h0) (fun h => h1 ((hcond0_1 t).mp h)) (fun h => h2 ((hcond0_2 t).mp h))) (noFlush0_7_D t ((hcond0_0 t).mpr h0) (fun h => h1 ((hcond0_1 t).mp h)) (fun h => h2 ((hcond0_2 t).mp h)))]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 64 := lt_of_lt_of_eq t.isLt (show cfg0.N = 64 from N_0); omega
        · rw [PhiS_castSucc m c t, PhiS_pos m c _ _ hz]
          rw [outsAt0_D m c t h0 h1 h2]
          unfold out0_D_8 sout0_D_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_D c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t)).2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexists _; iexact HS0
          iintro ⟨H0, H1, H2, H3, H4, H5, H6, H7, ⟨%e8, H8⟩, ⟨%es0, HS0⟩⟩
          isplitl [HS0 Hg]
          · isplitl [HS0]
            · unfold owns; iexists _; isplitr
              swap; · iexact HS0
              ipureintro; exact View.read_writes_of_cover _ _ _ _ _ (scover0_D_0 c _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          unfold owns; iexists _; isplitr
          swap; · iexact H8
          ipureintro; exact View.read_writes_of_cover _ _ _ _ _ (cover0_D_8 c _ _ _ _ _ _ _ _ _ _ _ _ _ _ _ _ _ _ _ _ _ _ _ _ _ _ _ _ _)
  · by_cases h1 : t.val % 64 = 0
    · exfalso; omega
    · by_cases h2 : t.val % 16 = 15
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2)], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2)], after0_6]
        rw [show (dats m 0 c).leavesExact 7 t = owns (c : Thread nD τ) (ms0_7 t) fullShare ((dats m 0 c).after 7 t) from by
      unfold Dat.leavesExact; rw [liveAt0_7_C t (fun h => h0 ((hcond0_0 t).mp h)) (fun h => h1 ((hcond0_1 t).mp h)) ((hcond0_2 t).mpr h2)], after0_7]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 64 := lt_of_lt_of_eq t.isLt (show cfg0.N = 64 from N_0); omega
        · rw [PhiS_castSucc m c t, PhiS_pos m c _ _ hz]
          rw [outsAt0_C m c t h0 h1 h2]
          simp only [before0_6_C m c t h0 h1 h2]
          unfold out0_C_5 out0_C_6 out0_C_7 out0_C_8 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _).2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexact H6
          isplitl [H7]; · iexists _; iexact H7
          isplitl [H8]; · iexists _; iexact H8
          isplitl [HS0]; · iexact HS0
          iintro ⟨H0, H1, H2, H3, H4, ⟨%e5, H5⟩, ⟨%e6, H6⟩, ⟨%e7, H7⟩, ⟨%e8, H8⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_C_5 c _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_C_6 c _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_C_7 c _ _ _ _ _ _ _ _ _ _ _ _ _ _ _ _ _ _ _ _ _ _ _ _ _ _ _ _ _ _ _)
          unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_B t (fun h => h0 ((hcond0_0 t).mp h)) (fun h => h1 ((hcond0_1 t).mp h)) (fun h => h2 ((hcond0_2 t).mp h))) (noFlush0_5_B t (fun h => h0 ((hcond0_0 t).mp h)) (fun h => h1 ((hcond0_1 t).mp h)) (fun h => h2 ((hcond0_2 t).mp h)))]
        rw [Dat.leavesExact_idle (dats m 0 c) 6 t (idleAt0_6_B t (fun h => h0 ((hcond0_0 t).mp h)) (fun h => h1 ((hcond0_1 t).mp h)) (fun h => h2 ((hcond0_2 t).mp h))) (noFlush0_6_B t (fun h => h0 ((hcond0_0 t).mp h)) (fun h => h1 ((hcond0_1 t).mp h)) (fun h => h2 ((hcond0_2 t).mp h)))]
        rw [Dat.leavesExact_idle (dats m 0 c) 7 t (idleAt0_7_B t (fun h => h0 ((hcond0_0 t).mp h)) (fun h => h1 ((hcond0_1 t).mp h)) (fun h => h2 ((hcond0_2 t).mp h))) (noFlush0_7_B t (fun h => h0 ((hcond0_0 t).mp h)) (fun h => h1 ((hcond0_1 t).mp h)) (fun h => h2 ((hcond0_2 t).mp h)))]
        rw [show (dats m 0 c).leavesExact 8 t = owns (c : Thread nD τ) (ms0_8 t) fullShare ((dats m 0 c).after 8 t) from by
      unfold Dat.leavesExact; rw [liveAt0_8 t], after0_8]
        by_cases hz : t.val = 0
        · exfalso; have hN : t.val < 64 := lt_of_lt_of_eq t.isLt (show cfg0.N = 64 from N_0); omega
        · rw [PhiS_castSucc m c t, PhiS_pos m c _ _ hz]
          rw [outsAt0_B m c t h0 h1 h2]
          unfold out0_B_8 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) _).2.2.2.2.2 _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          iintro ⟨H0, H1, H2, H3, H4, H5, H6, H7, ⟨%e8, H8⟩, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_DgradIdeal`'s statement (Defs.lean) at any `F` — Proof.lean cites it at `Bits`:
    `theorem Cert.Proof.claim : Cert.Claim := ⟨Cert.DgradIdeal.Gen.facts, fun m ρ _ => Cert.DgradIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.DgradIdeal.Gen

end
-- ==== Proof.DgradIdealFrame.Value.lean ====
/-
  What the program's outputs hold after a run, in terms of what each grid point leaves.
-/
module

public import proofs.«01_k».proof.Proof.DgradIdealFrame.Frame
public import Idealize.ShloMosaic.Lib.Pipeline.Value

@[expose] public section

noncomputable section

namespace Cert.DgradIdeal.Value

open Cert.DgradIdeal Cert.DgradIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 16 = 0) (h1 : t.val % 64 = 0) (h2 : ¬t.val % 16 = 15) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  simp only [flushed5, outsAt0_A m c t h0 h1 h2]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 16 = 0) (h1 : ¬t.val % 64 = 0) (h2 : ¬t.val % 16 = 15) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2) := by
  simp only [flushed5, outsAt0_B m c t h0 h1 h2]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 16 = 0) (h1 : ¬t.val % 64 = 0) (h2 : t.val % 16 = 15) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed5, outsAt0_C m c t h0 h1 h2]

/-- … so at a point where case D runs, what its write-back would write is that case's NAMED TERM for the window (`Gen.out0_D_5`: the pieces
    its run found, read back) at the point's memrefs and input blocks, and for an output the case reads back what the point before left (`Gen.outsAt0` at `t - 1`) — by the frame's rewriting lemma for the case. -/
theorem flushed5_D (c : Dev nD) (t : Fin cfg0.N) (h0 : t.val % 16 = 0) (h1 : ¬t.val % 64 = 0) (h2 : ¬t.val % 16 = 15) :
    (dats m 0 c).flushed 5 t = (cfg0.win 5).cut (grid0.coords t) (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t)) := by
  simp only [flushed5, outsAt0_D m c t h0 h1 h2]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S2048x4096.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 16 = 0) (h1 : t.val % 64 = 0) (h2 : ¬t.val % 16 = 15) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  simp only [flushed6, outsAt0_A m c t h0 h1 h2]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 16 = 0) (h1 : ¬t.val % 64 = 0) (h2 : ¬t.val % 16 = 15) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (outsAt0 m c (t.val - 1) (Nat.lt_of_le_of_lt (Nat.sub_le _ _) t.isLt)).2.1) := by
  simp only [flushed6, outsAt0_B m c t h0 h1 h2]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 16 = 0) (h1 : ¬t.val % 64 = 0) (h2 : t.val % 16 = 15) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed6, outsAt0_C m c t h0 h1 h2]

/-- … so at a point where case D runs, what its write-back would write is that case's NAMED TERM for the window (`Gen.out0_D_6`: the pieces
    its run found, read back) at the point's memrefs and input blocks, and for an output the case reads back what the point before left (`Gen.outsAt0` at `t - 1`) — by the frame's rewriting lemma for the case. -/
theorem flushed6_D (c : Dev nD) (t : Fin cfg0.N) (h0 : t.val % 16 = 0) (h1 : ¬t.val % 64 = 0) (h2 : ¬t.val % 16 = 15) :
    (dats m 0 c).flushed 6 t = (cfg0.win 6).cut (grid0.coords t) (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1) := by
  simp only [flushed6, outsAt0_D m c t h0 h1 h2]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S1x4096.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 16 = 0) (h1 : t.val % 64 = 0) (h2 : ¬t.val % 16 = 15) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  simp only [flushed7, outsAt0_A m c t h0 h1 h2]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 16 = 0) (h1 : ¬t.val % 64 = 0) (h2 : ¬t.val % 16 = 15) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2) := by
  simp only [flushed7, outsAt0_B m c t h0 h1 h2]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 16 = 0) (h1 : ¬t.val % 64 = 0) (h2 : t.val % 16 = 15) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed7, outsAt0_C m c t h0 h1 h2]

/-- … so at a point where case D runs, what its write-back would write is that case's NAMED TERM for the window (`Gen.out0_D_7`: the pieces
    its run found, read back) at the point's memrefs and input blocks, and for an output the case reads back what the point before left (`Gen.outsAt0` at `t - 1`) — by the frame's rewriting lemma for the case. -/
theorem flushed7_D (c : Dev nD) (t : Fin cfg0.N) (h0 : t.val % 16 = 0) (h1 : ¬t.val % 64 = 0) (h2 : ¬t.val % 16 = 15) :
    (dats m 0 c).flushed 7 t = (cfg0.win 7).cut (grid0.coords t) (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t)) := by
  simp only [flushed7, outsAt0_D m c t h0 h1 h2]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S2048x4096.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 3), read through the window's block. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 16 = 0) (h1 : t.val % 64 = 0) (h2 : ¬t.val % 16 = 15) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  simp only [flushed8, outsAt0_A m c t h0 h1 h2]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 16 = 0) (h1 : ¬t.val % 64 = 0) (h2 : ¬t.val % 16 = 15) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2) := by
  simp only [flushed8, outsAt0_B m c t h0 h1 h2]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 16 = 0) (h1 : ¬t.val % 64 = 0) (h2 : t.val % 16 = 15) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed8, outsAt0_C m c t h0 h1 h2]

/-- … so at a point where case D runs, what its write-back would write is that case's NAMED TERM for the window (`Gen.out0_D_8`: the pieces
    its run found, read back) at the point's memrefs and input blocks, and for an output the case reads back what the point before left (`Gen.outsAt0` at `t - 1`) — by the frame's rewriting lemma for the case. -/
theorem flushed8_D (c : Dev nD) (t : Fin cfg0.N) (h0 : t.val % 16 = 0) (h1 : ¬t.val % 64 = 0) (h2 : ¬t.val % 16 = 15) :
    (dats m 0 c).flushed 8 t = (cfg0.win 8).cut (grid0.coords t) (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t)) := by
  simp only [flushed8, outsAt0_D m c t h0 h1 h2]

/-- The index map sends distinct grid points to distinct block indices (decided over the 64 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2048x16384.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v5_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5_3) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 5 cfg0.N
      ∧ r.2.mem ((c : Thread nD τ).loc main_v5_1) = (dats m 0 c).arrAt 6 cfg0.N
      ∧ r.2.mem ((c : Thread nD τ).loc main_v5_2) = (dats m 0 c).arrAt 7 cfg0.N
      ∧ r.2.mem ((c : Thread nD τ).loc main_v5_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 16)
    stores the scratch whole without reading what it held, and `acc` does not enter there (nor where no point meets the
    conditions: `acc`, never read). -/
def scAt0_0 (c : Dev nD) (n : ℕ) (hb : n < cfg0.N) (acc : Vec F S512x4096 .f32) : Vec F S512x4096 .f32 :=
  if h0 : n % 16 = 0 then
    if h1 : n % 64 = 0 then
      if h2 : n % 16 = 15 then
        acc
      else
        sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
    else
      if h2 : n % 16 = 15 then
        acc
      else
        sout0_D_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    if h1 : n % 64 = 0 then
      acc
    else
      if h2 : n % 16 = 15 then
        sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc
      else
        sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2.2.2) 16 (fun n h => scAt0_0 m c n h (VS0_0.read (Elt F) VS0_0.junk)) (scAt0_0 m c)
    (fun n h hn => by
      have hN := lt_of_lt_of_eq h (show cfg0.N = 64 from N_0)
      by_cases h0 : n % 16 = 0 <;> by_cases h1 : n % 64 = 0 <;> by_cases h2 : n % 16 = 15
      all_goals first | (exfalso; omega) | (rw [outsAt0_A m c ⟨n, h⟩ h0 h1 h2]; dsimp only; unfold scAt0_0; rw [dif_pos h0, dif_pos h1, dif_neg h2] <;> try rfl) | (rw [outsAt0_B m c ⟨n, h⟩ h0 h1 h2]; dsimp only; unfold scAt0_0; rw [dif_neg h0, dif_neg h1, dif_neg h2] <;> try rfl) | (rw [outsAt0_C m c ⟨n, h⟩ h0 h1 h2]; dsimp only; unfold scAt0_0; rw [dif_neg h0, dif_neg h1, dif_pos h2] <;> try rfl) | (rw [outsAt0_D m c ⟨n, h⟩ h0 h1 h2]; dsimp only; unfold scAt0_0; rw [dif_pos h0, dif_neg h1, dif_neg h2] <;> try rfl))
    (fun n h hn => by
      have hN := lt_of_lt_of_eq h (show cfg0.N = 64 from N_0)
      by_cases h0 : (n + 1) % 16 = 0 <;> by_cases h1 : (n + 1) % 64 = 0 <;> by_cases h2 : (n + 1) % 16 = 15
      all_goals first | (exfalso; omega) | (rw [outsAt0_A m c ⟨n + 1, h⟩ h0 h1 h2]; dsimp only; unfold scAt0_0; rw [dif_pos h0, dif_pos h1, dif_neg h2] <;> try rfl) | (rw [outsAt0_B m c ⟨n + 1, h⟩ h0 h1 h2]; dsimp only; unfold scAt0_0; rw [dif_neg h0, dif_neg h1, dif_neg h2] <;> try rfl) | (rw [outsAt0_C m c ⟨n + 1, h⟩ h0 h1 h2]; dsimp only; unfold scAt0_0; rw [dif_neg h0, dif_neg h1, dif_pos h2] <;> try rfl) | (rw [outsAt0_D m c ⟨n + 1, h⟩ h0 h1 h2]; dsimp only; unfold scAt0_0; rw [dif_pos h0, dif_neg h1, dif_neg h2] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x4096 .bf16 × Vec F S1x4096 .f32 × Vec F S512x4096 .fp8e4m3 × Vec F S512x1024 .fp8e5m2 × Vec F S512x4096 .f32 :=
  ((VO0_5.read (Elt F) VO0_5.junk, VO0_6.read (Elt F) VO0_6.junk, VO0_7.read (Elt F) VO0_7.junk, VO0_8.read (Elt F) VO0_8.junk, VS0_0.read (Elt F) VS0_0.junk) : Vec F S512x4096 .bf16 × Vec F S1x4096 .f32 × Vec F S512x4096 .fp8e4m3 × Vec F S512x1024 .fp8e5m2 × Vec F S512x4096 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x4096 .bf16 × Vec F S1x4096 .f32 × Vec F S512x4096 .fp8e4m3 × Vec F S512x1024 .fp8e5m2 × Vec F S512x4096 .f32) : Vec F S512x4096 .bf16 × Vec F S1x4096 .f32 × Vec F S512x4096 .fp8e4m3 × Vec F S512x1024 .fp8e5m2 × Vec F S512x4096 .f32 :=
  if h0 : n % 16 = 0 then
    if h1 : n % 64 = 0 then
      if h2 : n % 16 = 15 then
        False.elim (by have hN : n < 64 := lt_of_lt_of_eq hb (show cfg0.N = 64 from N_0); omega)
      else
        (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
    else
      if h2 : n % 16 = 15 then
        False.elim (by have hN : n < 64 := lt_of_lt_of_eq hb (show cfg0.N = 64 from N_0); omega)
      else
        (out0_D_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_D_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1, out0_D_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_D_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_D_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    if h1 : n % 64 = 0 then
      False.elim (by have hN : n < 64 := lt_of_lt_of_eq hb (show cfg0.N = 64 from N_0); omega)
    else
      if h2 : n % 16 = 15 then
        (out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2.2.2, out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2.2.2, out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2.2.2, out0_C_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2.2.2)
      else
        (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.2 acc.2.1, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2.2)

/-- `stAt0` at a point of case A: that case's contents. -/
theorem stAt0_A (c : Dev nD) (t : Fin cfg0.N) (acc : Vec F S512x4096 .bf16 × Vec F S1x4096 .f32 × Vec F S512x4096 .fp8e4m3 × Vec F S512x1024 .fp8e5m2 × Vec F S512x4096 .f32) (h0 : t.val % 16 = 0) (h1 : t.val % 64 = 0) (h2 : ¬t.val % 16 = 15) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) :=
  (dif_pos h0).trans ((dif_pos h1).trans ((dif_neg h2).trans rfl))

/-- `stAt0` at a point of case B: that case's contents, over `acc`. -/
theorem stAt0_B (c : Dev nD) (t : Fin cfg0.N) (acc : Vec F S512x4096 .bf16 × Vec F S1x4096 .f32 × Vec F S512x4096 .fp8e4m3 × Vec F S512x1024 .fp8e5m2 × Vec F S512x4096 .f32) (h0 : ¬t.val % 16 = 0) (h1 : ¬t.val % 64 = 0) (h2 : ¬t.val % 16 = 15) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) acc.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) acc.2.2.2.2 acc.2.1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) acc.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) acc.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) acc.2.2.2.2) :=
  (dif_neg h0).trans ((dif_neg h1).trans ((dif_neg h2).trans rfl))

/-- `stAt0` at a point of case C: that case's contents, over `acc`. -/
theorem stAt0_C (c : Dev nD) (t : Fin cfg0.N) (acc : Vec F S512x4096 .bf16 × Vec F S1x4096 .f32 × Vec F S512x4096 .fp8e4m3 × Vec F S512x1024 .fp8e5m2 × Vec F S512x4096 .f32) (h0 : ¬t.val % 16 = 0) (h1 : ¬t.val % 64 = 0) (h2 : t.val % 16 = 15) :
    stAt0 m c t.val t.isLt acc = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) acc.2.1 acc.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) acc.2.1 acc.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) acc.2.1 acc.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) acc.2.1 acc.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) acc.2.1 acc.2.2.2.2) :=
  (dif_neg h0).trans ((dif_neg h1).trans ((dif_pos h2).trans rfl))

/-- `stAt0` at a point of case D: that case's contents, over `acc`. -/
theorem stAt0_D (c : Dev nD) (t : Fin cfg0.N) (acc : Vec F S512x4096 .bf16 × Vec F S1x4096 .f32 × Vec F S512x4096 .fp8e4m3 × Vec F S512x1024 .fp8e5m2 × Vec F S512x4096 .f32) (h0 : t.val % 16 = 0) (h1 : ¬t.val % 64 = 0) (h2 : ¬t.val % 16 = 15) :
    stAt0 m c t.val t.isLt acc = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) acc.2.1, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t), sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t)) :=
  (dif_pos h0).trans ((dif_neg h1).trans ((dif_neg h2).trans rfl))

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one every 16 points),
    `i`'s place in it, and the point that writes it back (the last of its 16). -/
abbrev run5Of (i : S2048x4096.Idx) : ℕ := 1 * ((i 0).val / 512 - 0) + 1 * ((i 1).val / 4096 - 0)
set_option backward.proofsInPublic true in
abbrev loc5Of (i : S2048x4096.Idx) : S512x4096.Idx := fun a => match a with
  | ⟨0, _⟩ => ⟨(i 0).val % 512, Nat.mod_lt _ (by decide)⟩
  | ⟨1, _⟩ => ⟨(i 1).val % 4096, Nat.mod_lt _ (by decide)⟩
abbrev pt5Of (i : S2048x4096.Idx) : ℕ := 16 * run5Of i + 15

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v5_0) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t / 16`). -/
theorem idx_facts5 : ∀ t : Fin cfg0.N, 0 ≤ win0_5.index t (0 : Fin 2) ∧ win0_5.index t (0 : Fin 2) ≤ 3
    ∧ 0 ≤ win0_5.index t (1 : Fin 2) ∧ win0_5.index t (1 : Fin 2) ≤ 0
    ∧ 1 * (win0_5.index t (0 : Fin 2) - 0) + 1 * (win0_5.index t (1 : Fin 2) - 0) = t.val / 16 :=
  (by decide +kernel : ∀ t : Fin grid0.N, _)

/-- Every block of the box is SOME flushing point's: `onto5Pt`, the point that writes back the block at place `q` of the box (the last point of its run). -/
abbrev onto5Pt (q0 : Fin 4) (q1 : Fin 1) : Fin grid0.N :=
  ⟨16 * (1 * q0.val + 1 * q1.val) + 15, lt_of_lt_of_eq (by omega) N_0.symm⟩
theorem idx_onto5 : ∀ (q0 : Fin 4) (q1 : Fin 1), ∃ t : Fin cfg0.N, (cfg0.win 5).flush t = true ∧ win0_5.index t = ![q0.val + 0, q1.val + 0] :=
  fun q0 q1 => ⟨onto5Pt q0 q1, (by decide +kernel : ∀ (q0 : Fin 4) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  have hm : t.val % 16 = 15 := (flush0_5 t).mp hf
  obtain ⟨e0, e1, e2⟩ := idx_facts5 t
  funext y
  have hy0 : (y 0).val < 512 := (y 0).isLt
  have hy1 : (y 1).val < 4096 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 4096 + 1 * (y 1).val := rfl
  have hr : run5Of (((cfg0.win 5).blk t).view.emb y) = t.val / 16 := by
    show 1 * ((((cfg0.win 5).blk t).view.emb y 0).val / 512 - 0) + 1 * ((((cfg0.win 5).blk t).view.emb y 1).val / 4096 - 0) = _
    rw [hb0, hb1]
    rw [show (win0_5.index t (0 : Fin 2) * 512 + 1 * (y 0).val) / 512 = win0_5.index t (0 : Fin 2) from by omega]; rw [show (win0_5.index t (1 : Fin 2) * 4096 + 1 * (y 1).val) / 4096 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 512 = (y 0).val; rw [hb0]; omega
    | ⟨1, _⟩ => show (((cfg0.win 5).blk t).view.emb y 1).val % 4096 = (y 1).val; rw [hb1]; omega
  have hp : pt5Of (((cfg0.win 5).blk t).view.emb y) = t.val := by
    show 16 * run5Of (((cfg0.win 5).blk t).view.emb y) + 15 = _
    rw [hr]; have := Nat.div_add_mod t.val 16; omega
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S2048x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v5_0).slice (win0_5.rect t)).set ↔ _
  rw [View.set_slice_whole, Rect.mem_set_unit]
  exact Iff.rfl

/-- THE COVERED INDICES: in some flushing point's block iff inside the box those blocks fill. -/
theorem covered_iff5 (i : S2048x4096.Idx) :
    (∃ t : Fin cfg0.N, (cfg0.win 5).flush t = true ∧ i ∈ ((cfg0.win 5).blk t).view.set) ↔ 0 ≤ (i 0).val ∧ (i 0).val < 2048 ∧ 0 ≤ (i 1).val ∧ (i 1).val < 4096 := by
  constructor
  · rintro ⟨t, -, hi⟩
    rw [mem_blk5] at hi
    have b0 : win0_5.index t (0 : Fin 2) * 512 ≤ (i 0).val ∧ (i 0).val < win0_5.index t (0 : Fin 2) * 512 + 512 := hi 0
    have b1 : win0_5.index t (1 : Fin 2) * 4096 ≤ (i 1).val ∧ (i 1).val < win0_5.index t (1 : Fin 2) * 4096 + 4096 := hi 1
    obtain ⟨e0, e1, e2⟩ := idx_facts5 t
    omega
  · intro h
    have hi0 : (i 0).val < 2048 := (i 0).isLt
    have hi1 : (i 1).val < 4096 := (i 1).isLt
    obtain ⟨t, hft, ht⟩ := idx_onto5 ⟨(i 0).val / 512 - 0, by omega⟩ ⟨(i 1).val / 4096 - 0, by omega⟩
    have q0 : win0_5.index t (0 : Fin 2) = (i 0).val / 512 - 0 + 0 := congrFun ht 0
    have q1 : win0_5.index t (1 : Fin 2) = (i 1).val / 4096 - 0 + 0 := congrFun ht 1
    refine ⟨t, hft, ?_⟩
    rw [mem_blk5]
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 4096 ≤ (i 1).val ∧ (i 1).val < win0_5.index t (1 : Fin 2) * 4096 + 4096; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 2048 := (i 0).isLt; have h1 : (i 1).val < 4096 := (i 1).isLt; omega))

/-! ## Output window 6 -/

/-- The block of the array that holds index `i`, numbered in the order the points write the blocks back (one every 64 points),
    `i`'s place in it, and the point that writes it back (the last of its 64). -/
abbrev run6Of (i : S1x4096.Idx) : ℕ := 1 * ((i 0).val / 1 - 0) + 1 * ((i 1).val / 4096 - 0)
set_option backward.proofsInPublic true in
abbrev loc6Of (i : S1x4096.Idx) : S1x4096.Idx := fun a => match a with
  | ⟨0, _⟩ => ⟨(i 0).val % 1, Nat.mod_lt _ (by decide)⟩
  | ⟨1, _⟩ => ⟨(i 1).val % 4096, Nat.mod_lt _ (by decide)⟩
abbrev pt6Of (i : S1x4096.Idx) : ℕ := 64 * run6Of i + 63

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v5_1) := fun i =>
  if h : pt6Of i < cfg0.N then
    (Pipeline.accAt (fun n h => stAt0 m c n h junk0) (stAt0 m c) 0 (pt6Of i) (by omega)).2.1 (loc6Of i)
  else V m c (Pipeline.arrRef spec0 6) i

/-- The printed index map, decided over the grid: output window 6's block indices stay in the box, and the block number
    read off them is the point's (`t / 64`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 0
    ∧ 1 * (win0_6.index t (0 : Fin 2) - 0) + 1 * (win0_6.index t (1 : Fin 2) - 0) = t.val / 64 :=
  (by decide +kernel : ∀ t : Fin grid0.N, _)

/-- Every block of the box is SOME flushing point's: `onto6Pt`, the point that writes back the block at place `q` of the box (the last point of its run). -/
abbrev onto6Pt (q0 : Fin 1) (q1 : Fin 1) : Fin grid0.N :=
  ⟨64 * (1 * q0.val + 1 * q1.val) + 63, lt_of_lt_of_eq (by omega) N_0.symm⟩
theorem idx_onto6 : ∀ (q0 : Fin 1) (q1 : Fin 1), ∃ t : Fin cfg0.N, (cfg0.win 6).flush t = true ∧ win0_6.index t = ![q0.val + 0, q1.val + 0] :=
  fun q0 q1 => ⟨onto6Pt q0 q1, (by decide +kernel : ∀ (q0 : Fin 1) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 64 = 63 := (flush0_6 t).mp hf
  obtain ⟨e0, e1, e2⟩ := idx_facts6 t
  funext y
  have hy0 : (y 0).val < 1 := (y 0).isLt
  have hy1 : (y 1).val < 4096 := (y 1).isLt
  have hb0 : (((cfg0.win 6).blk t).view.emb y 0).val = win0_6.index t (0 : Fin 2) * 1 + 1 * (y 0).val := rfl
  have hb1 : (((cfg0.win 6).blk t).view.emb y 1).val = win0_6.index t (1 : Fin 2) * 4096 + 1 * (y 1).val := rfl
  have hr : run6Of (((cfg0.win 6).blk t).view.emb y) = t.val / 64 := by
    show 1 * ((((cfg0.win 6).blk t).view.emb y 0).val / 1 - 0) + 1 * ((((cfg0.win 6).blk t).view.emb y 1).val / 4096 - 0) = _
    rw [hb0, hb1]
    rw [show (win0_6.index t (0 : Fin 2) * 1 + 1 * (y 0).val) / 1 = win0_6.index t (0 : Fin 2) from by omega]; rw [show (win0_6.index t (1 : Fin 2) * 4096 + 1 * (y 1).val) / 4096 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 4096 = (y 1).val; rw [hb1]; omega
  have hp : pt6Of (((cfg0.win 6).blk t).view.emb y) = t.val := by
    show 64 * run6Of (((cfg0.win 6).blk t).view.emb y) + 63 = _
    rw [hr]; have := Nat.div_add_mod t.val 64; omega
  show (Pipeline.accAt (fun n h => stAt0 m c n h junk0) (stAt0 m c) 0 t.val _).2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S1x4096.Idx) :
    i ∈ ((cfg0.win 6).blk t).view.set ↔ ∀ a : Fin 2, win0_6.index t a * S1x4096.size a ≤ (i a).val ∧ (i a).val < win0_6.index t a * S1x4096.size a + S1x4096.size a := by
  show i ∈ ((View.whole main_v5_1).slice (win0_6.rect t)).set ↔ _
  rw [View.set_slice_whole, Rect.mem_set_unit]
  exact Iff.rfl

/-- THE COVERED INDICES: in some flushing point's block iff inside the box those blocks fill. -/
theorem covered_iff6 (i : S1x4096.Idx) :
    (∃ t : Fin cfg0.N, (cfg0.win 6).flush t = true ∧ i ∈ ((cfg0.win 6).blk t).view.set) ↔ 0 ≤ (i 0).val ∧ (i 0).val < 1 ∧ 0 ≤ (i 1).val ∧ (i 1).val < 4096 := by
  constructor
  · rintro ⟨t, -, hi⟩
    rw [mem_blk6] at hi
    have b0 : win0_6.index t (0 : Fin 2) * 1 ≤ (i 0).val ∧ (i 0).val < win0_6.index t (0 : Fin 2) * 1 + 1 := hi 0
    have b1 : win0_6.index t (1 : Fin 2) * 4096 ≤ (i 1).val ∧ (i 1).val < win0_6.index t (1 : Fin 2) * 4096 + 4096 := hi 1
    obtain ⟨e0, e1, e2⟩ := idx_facts6 t
    omega
  · intro h
    have hi0 : (i 0).val < 1 := (i 0).isLt
    have hi1 : (i 1).val < 4096 := (i 1).isLt
    obtain ⟨t, hft, ht⟩ := idx_onto6 ⟨(i 0).val / 1 - 0, by omega⟩ ⟨(i 1).val / 4096 - 0, by omega⟩
    have q0 : win0_6.index t (0 : Fin 2) = (i 0).val / 1 - 0 + 0 := congrFun ht 0
    have q1 : win0_6.index t (1 : Fin 2) = (i 1).val / 4096 - 0 + 0 := congrFun ht 1
    refine ⟨t, hft, ?_⟩
    rw [mem_blk6]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 4096 ≤ (i 1).val ∧ (i 1).val < win0_6.index t (1 : Fin 2) * 4096 + 4096; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 1 := (i 0).isLt; have h1 : (i 1).val < 4096 := (i 1).isLt; omega))

/-- Output 6 is written back ONCE, at the last point, and its block is its array: the array after the run is output 6's
    component of the fold over the whole grid — where a hand proof over this window starts. -/
theorem G6_last (c : Dev nD) :
    G6 m c = (Pipeline.accAt (fun n h => stAt0 m c n h junk0) (stAt0 m c) 0 63 (lt_of_lt_of_eq (by decide) N_0.symm)).2.1 := by
  funext i
  have hi0 : (i 0).val < 1 := (i 0).isLt
  have hi1 : (i 1).val < 4096 := (i 1).isLt
  have hp : pt6Of i = 63 := by
    show 64 * (1 * ((i 0).val / 1 - 0) + 1 * ((i 1).val / 4096 - 0)) + 63 = _
    omega
  have hl : loc6Of i = i := by
    funext a; apply Fin.ext
    match a with
    | ⟨0, _⟩ => show (i 0).val % 1 = (i 0).val; omega
    | ⟨1, _⟩ => show (i 1).val % 4096 = (i 1).val; omega
  unfold G6
  rw [dif_pos (by rw [hp]; exact lt_of_lt_of_eq (by decide) N_0.symm), hl, fold0_congr m c _ _ _ _ hp]

/-! ## Output window 7 -/

/-- The block of the array that holds index `i`, numbered in the order the points write the blocks back (one every 16 points),
    `i`'s place in it, and the point that writes it back (the last of its 16). -/
abbrev run7Of (i : S2048x4096.Idx) : ℕ := 1 * ((i 0).val / 512 - 0) + 1 * ((i 1).val / 4096 - 0)
set_option backward.proofsInPublic true in
abbrev loc7Of (i : S2048x4096.Idx) : S512x4096.Idx := fun a => match a with
  | ⟨0, _⟩ => ⟨(i 0).val % 512, Nat.mod_lt _ (by decide)⟩
  | ⟨1, _⟩ => ⟨(i 1).val % 4096, Nat.mod_lt _ (by decide)⟩
abbrev pt7Of (i : S2048x4096.Idx) : ℕ := 16 * run7Of i + 15

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v5_2) := fun i =>
  if h : pt7Of i < cfg0.N then
    (Pipeline.accAt (fun n h => stAt0 m c n h junk0) (stAt0 m c) 0 (pt7Of i) (by omega)).2.2.1 (loc7Of i)
  else V m c (Pipeline.arrRef spec0 7) i

/-- The printed index map, decided over the grid: output window 7's block indices stay in the box, and the block number
    read off them is the point's (`t / 16`). -/
theorem idx_facts7 : ∀ t : Fin cfg0.N, 0 ≤ win0_7.index t (0 : Fin 2) ∧ win0_7.index t (0 : Fin 2) ≤ 3
    ∧ 0 ≤ win0_7.index t (1 : Fin 2) ∧ win0_7.index t (1 : Fin 2) ≤ 0
    ∧ 1 * (win0_7.index t (0 : Fin 2) - 0) + 1 * (win0_7.index t (1 : Fin 2) - 0) = t.val / 16 :=
  (by decide +kernel : ∀ t : Fin grid0.N, _)

/-- Every block of the box is SOME flushing point's: `onto7Pt`, the point that writes back the block at place `q` of the box (the last point of its run). -/
abbrev onto7Pt (q0 : Fin 4) (q1 : Fin 1) : Fin grid0.N :=
  ⟨16 * (1 * q0.val + 1 * q1.val) + 15, lt_of_lt_of_eq (by omega) N_0.symm⟩
theorem idx_onto7 : ∀ (q0 : Fin 4) (q1 : Fin 1), ∃ t : Fin cfg0.N, (cfg0.win 7).flush t = true ∧ win0_7.index t = ![q0.val + 0, q1.val + 0] :=
  fun q0 q1 => ⟨onto7Pt q0 q1, (by decide +kernel : ∀ (q0 : Fin 4) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 16 = 15 := (flush0_7 t).mp hf
  obtain ⟨e0, e1, e2⟩ := idx_facts7 t
  funext y
  have hy0 : (y 0).val < 512 := (y 0).isLt
  have hy1 : (y 1).val < 4096 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 4096 + 1 * (y 1).val := rfl
  have hr : run7Of (((cfg0.win 7).blk t).view.emb y) = t.val / 16 := by
    show 1 * ((((cfg0.win 7).blk t).view.emb y 0).val / 512 - 0) + 1 * ((((cfg0.win 7).blk t).view.emb y 1).val / 4096 - 0) = _
    rw [hb0, hb1]
    rw [show (win0_7.index t (0 : Fin 2) * 512 + 1 * (y 0).val) / 512 = win0_7.index t (0 : Fin 2) from by omega]; rw [show (win0_7.index t (1 : Fin 2) * 4096 + 1 * (y 1).val) / 4096 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 512 = (y 0).val; rw [hb0]; omega
    | ⟨1, _⟩ => show (((cfg0.win 7).blk t).view.emb y 1).val % 4096 = (y 1).val; rw [hb1]; omega
  have hp : pt7Of (((cfg0.win 7).blk t).view.emb y) = t.val := by
    show 16 * run7Of (((cfg0.win 7).blk t).view.emb y) + 15 = _
    rw [hr]; have := Nat.div_add_mod t.val 16; omega
  show (Pipeline.accAt (fun n h => stAt0 m c n h junk0) (stAt0 m c) 0 t.val _).2.2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S2048x4096.Idx) :
    i ∈ ((cfg0.win 7).blk t).view.set ↔ ∀ a : Fin 2, win0_7.index t a * S512x4096.size a ≤ (i a).val ∧ (i a).val < win0_7.index t a * S512x4096.size a + S512x4096.size a := by
  show i ∈ ((View.whole main_v5_2).slice (win0_7.rect t)).set ↔ _
  rw [View.set_slice_whole, Rect.mem_set_unit]
  exact Iff.rfl

/-- THE COVERED INDICES: in some flushing point's block iff inside the box those blocks fill. -/
theorem covered_iff7 (i : S2048x4096.Idx) :
    (∃ t : Fin cfg0.N, (cfg0.win 7).flush t = true ∧ i ∈ ((cfg0.win 7).blk t).view.set) ↔ 0 ≤ (i 0).val ∧ (i 0).val < 2048 ∧ 0 ≤ (i 1).val ∧ (i 1).val < 4096 := by
  constructor
  · rintro ⟨t, -, hi⟩
    rw [mem_blk7] at hi
    have b0 : win0_7.index t (0 : Fin 2) * 512 ≤ (i 0).val ∧ (i 0).val < win0_7.index t (0 : Fin 2) * 512 + 512 := hi 0
    have b1 : win0_7.index t (1 : Fin 2) * 4096 ≤ (i 1).val ∧ (i 1).val < win0_7.index t (1 : Fin 2) * 4096 + 4096 := hi 1
    obtain ⟨e0, e1, e2⟩ := idx_facts7 t
    omega
  · intro h
    have hi0 : (i 0).val < 2048 := (i 0).isLt
    have hi1 : (i 1).val < 4096 := (i 1).isLt
    obtain ⟨t, hft, ht⟩ := idx_onto7 ⟨(i 0).val / 512 - 0, by omega⟩ ⟨(i 1).val / 4096 - 0, by omega⟩
    have q0 : win0_7.index t (0 : Fin 2) = (i 0).val / 512 - 0 + 0 := congrFun ht 0
    have q1 : win0_7.index t (1 : Fin 2) = (i 1).val / 4096 - 0 + 0 := congrFun ht 1
    refine ⟨t, hft, ?_⟩
    rw [mem_blk7]
    intro a
    match a with
    | ⟨0, _⟩ => show win0_7.index t (0 : Fin 2) * 512 ≤ (i 0).val ∧ (i 0).val < win0_7.index t (0 : Fin 2) * 512 + 512; omega
    | ⟨1, _⟩ => show win0_7.index t (1 : Fin 2) * 4096 ≤ (i 1).val ∧ (i 1).val < win0_7.index t (1 : Fin 2) * 4096 + 4096; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 2048 := (i 0).isLt; have h1 : (i 1).val < 4096 := (i 1).isLt; omega))

/-! ## Output window 8 -/

/-- The block of the array that holds index `i`, numbered in the order the points write the blocks back (one per point),
    `i`'s place in it, and the point that writes it back. -/
abbrev run8Of (i : S2048x16384.Idx) : ℕ := 16 * ((i 0).val / 512 - 0) + 1 * ((i 1).val / 1024 - 0)
set_option backward.proofsInPublic true in
abbrev loc8Of (i : S2048x16384.Idx) : S512x1024.Idx := fun a => match a with
  | ⟨0, _⟩ => ⟨(i 0).val % 512, Nat.mod_lt _ (by decide)⟩
  | ⟨1, _⟩ => ⟨(i 1).val % 1024, Nat.mod_lt _ (by decide)⟩
abbrev pt8Of (i : S2048x16384.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v5_3) := fun i =>
  if h : pt8Of i < cfg0.N then
    (Pipeline.accAt (fun n h => stAt0 m c n h junk0) (stAt0 m c) 0 (pt8Of i) (by omega)).2.2.2.1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 2) ∧ win0_8.index t (0 : Fin 2) ≤ 3
    ∧ 0 ≤ win0_8.index t (1 : Fin 2) ∧ win0_8.index t (1 : Fin 2) ≤ 15
    ∧ 16 * (win0_8.index t (0 : Fin 2) - 0) + 1 * (win0_8.index t (1 : Fin 2) - 0) = t.val :=
  (by decide +kernel : ∀ t : Fin grid0.N, _)

/-- Every block of the box is SOME flushing point's: `onto8Pt`, the point that writes back the block at place `q` of the box. -/
abbrev onto8Pt (q0 : Fin 4) (q1 : Fin 16) : Fin grid0.N :=
  ⟨16 * q0.val + 1 * q1.val, lt_of_lt_of_eq (by omega) N_0.symm⟩
theorem idx_onto8 : ∀ (q0 : Fin 4) (q1 : Fin 16), ∃ t : Fin cfg0.N, (cfg0.win 8).flush t = true ∧ win0_8.index t = ![q0.val + 0, q1.val + 0] :=
  fun q0 q1 => ⟨onto8Pt q0 q1, (by decide +kernel : ∀ (q0 : Fin 4) (q1 : Fin 16), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2⟩ := idx_facts8 t
  funext y
  have hy0 : (y 0).val < 512 := (y 0).isLt
  have hy1 : (y 1).val < 1024 := (y 1).isLt
  have hb0 : (((cfg0.win 8).blk t).view.emb y 0).val = win0_8.index t (0 : Fin 2) * 512 + 1 * (y 0).val := rfl
  have hb1 : (((cfg0.win 8).blk t).view.emb y 1).val = win0_8.index t (1 : Fin 2) * 1024 + 1 * (y 1).val := rfl
  have hr : run8Of (((cfg0.win 8).blk t).view.emb y) = t.val := by
    show 16 * ((((cfg0.win 8).blk t).view.emb y 0).val / 512 - 0) + 1 * ((((cfg0.win 8).blk t).view.emb y 1).val / 1024 - 0) = _
    rw [hb0, hb1]
    rw [show (win0_8.index t (0 : Fin 2) * 512 + 1 * (y 0).val) / 512 = win0_8.index t (0 : Fin 2) from by omega]; rw [show (win0_8.index t (1 : Fin 2) * 1024 + 1 * (y 1).val) / 1024 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 512 = (y 0).val; rw [hb0]; omega
    | ⟨1, _⟩ => show (((cfg0.win 8).blk t).view.emb y 1).val % 1024 = (y 1).val; rw [hb1]; omega
  have hp : pt8Of (((cfg0.win 8).blk t).view.emb y) = t.val := by
    exact hr
  show (Pipeline.accAt (fun n h => stAt0 m c n h junk0) (stAt0 m c) 0 t.val _).2.2.2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S2048x16384.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v5_3).slice (win0_8.rect t)).set ↔ _
  rw [View.set_slice_whole, Rect.mem_set_unit]
  exact Iff.rfl

/-- THE COVERED INDICES: in some flushing point's block iff inside the box those blocks fill. -/
theorem covered_iff8 (i : S2048x16384.Idx) :
    (∃ t : Fin cfg0.N, (cfg0.win 8).flush t = true ∧ i ∈ ((cfg0.win 8).blk t).view.set) ↔ 0 ≤ (i 0).val ∧ (i 0).val < 2048 ∧ 0 ≤ (i 1).val ∧ (i 1).val < 16384 := by
  constructor
  · rintro ⟨t, -, hi⟩
    rw [mem_blk8] at hi
    have b0 : win0_8.index t (0 : Fin 2) * 512 ≤ (i 0).val ∧ (i 0).val < win0_8.index t (0 : Fin 2) * 512 + 512 := hi 0
    have b1 : win0_8.index t (1 : Fin 2) * 1024 ≤ (i 1).val ∧ (i 1).val < win0_8.index t (1 : Fin 2) * 1024 + 1024 := hi 1
    obtain ⟨e0, e1, e2⟩ := idx_facts8 t
    omega
  · intro h
    have hi0 : (i 0).val < 2048 := (i 0).isLt
    have hi1 : (i 1).val < 16384 := (i 1).isLt
    obtain ⟨t, hft, ht⟩ := idx_onto8 ⟨(i 0).val / 512 - 0, by omega⟩ ⟨(i 1).val / 1024 - 0, by omega⟩
    have q0 : win0_8.index t (0 : Fin 2) = (i 0).val / 512 - 0 + 0 := congrFun ht 0
    have q1 : win0_8.index t (1 : Fin 2) = (i 1).val / 1024 - 0 + 0 := congrFun ht 1
    refine ⟨t, hft, ?_⟩
    rw [mem_blk8]
    intro a
    match a with
    | ⟨0, _⟩ => show win0_8.index t (0 : Fin 2) * 512 ≤ (i 0).val ∧ (i 0).val < win0_8.index t (0 : Fin 2) * 512 + 512; omega
    | ⟨1, _⟩ => show win0_8.index t (1 : Fin 2) * 1024 ≤ (i 1).val ∧ (i 1).val < win0_8.index t (1 : Fin 2) * 1024 + 1024; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 2048 := (i 0).isLt; have h1 : (i 1).val < 16384 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v5_0) = G5 m c
      ∧ r.2.mem ((c : Thread nD τ).loc main_v5_1) = G6 m c
      ∧ r.2.mem ((c : Thread nD τ).loc main_v5_2) = G7 m c
      ∧ r.2.mem ((c : Thread nD τ).loc main_v5_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post5 m r h c).trans (final5 m c),
      (post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.DgradIdeal.Value

end
-- ==== Proof.DgradCases.lean ====
/-
  What one grid point of the input-gradient kernel leaves, apart from the row loop: the codes of its
  block of the upstream gradient, and the running product.
-/
module

public import proofs.«01_k».proof.Proof.DgradIdealFrame.Value
public import Idealize.ShloMosaic.Lib.Pointwise

@[expose] public section

set_option maxRecDepth 16384

noncomputable section

namespace Cert.DgradIdeal.Hand

open Cert.DgradIdeal Cert.DgradIdeal.Gen Idealize.ShloMosaic Idealize.ShloMosaic.TcCoe Idealize.SL.Sem
open Idealize.ShloMosaic.Pipeline (Dat)
open Idealize.ShloMosaic.Pointwise
open scoped BigOperators

/-- A rectangle at the origin has zero offsets. -/
theorem hz : (![0, 0] : Fin 2 → ℕ) = fun _ => 0 := by
  funext j
  match j with
  | ⟨0, _⟩ => rfl
  | ⟨1, _⟩ => rfl

/-- Reading word 0 of the three scalars. -/
theorem ld_scal0 (x0 : Vec Ideal S3 .f32) (h) (h') :
    View.ld x0 (Rect.unit (s := S3) ![0] S1.size h) (Shape.Idx.first (s := S1) h') = x0 (ix1 0) := by
  refine congrArg x0 ?_
  funext a
  match a with
  | ⟨0, _⟩ => exact Fin.ext rfl

/-- Reading word 1 of the three scalars. -/
theorem ld_scal1 (x0 : Vec Ideal S3 .f32) (h) (h') :
    View.ld x0 (Rect.unit (s := S3) ![1] S1.size h) (Shape.Idx.first (s := S1) h') = x0 (ix1 1) := by
  refine congrArg x0 ?_
  funext a
  match a with
  | ⟨0, _⟩ => exact Fin.ext rfl

/-- Reading word 2 of the three scalars. -/
theorem ld_scal2 (x0 : Vec Ideal S3 .f32) (h) (h') :
    View.ld x0 (Rect.unit (s := S3) ![2] S1.size h) (Shape.Idx.first (s := S1) h') = x0 (ix1 2) := by
  refine congrArg x0 ?_
  funext a
  match a with
  | ⟨0, _⟩ => exact Fin.ext rfl

section

variable (c : Dev nD) (i : grid0.Coords) (arg2 : Memref sig .tc .smem S3 .f32) (harg2 : arg2.IsWhole)
  (arg3 : Memref sig .tc .vmem S512x4096 .bf16) (harg3 : arg3.IsWhole) (arg4 : Memref sig .tc .vmem S1x4096 .f32) (harg4 : arg4.IsWhole)
  (arg5 : Memref sig .tc .vmem S512x1024 .bf16) (harg5 : arg5.IsWhole) (arg6 : Memref sig .tc .vmem S4096x1024 .fp8e4m3) (harg6 : arg6.IsWhole)
  (arg7 : Memref sig .tc .vmem S512x4096 .bf16) (harg7 : arg7.IsWhole) (arg8 : Memref sig .tc .vmem S1x4096 .f32) (harg8 : arg8.IsWhole)
  (arg9 : Memref sig .tc .vmem S512x4096 .fp8e4m3) (harg9 : arg9.IsWhole) (arg10 : Memref sig .tc .vmem S512x1024 .fp8e5m2) (harg10 : arg10.IsWhole)
  (arg11 : Memref sig .tc .vmem S512x4096 .f32) (harg11 : arg11.IsWhole)
variable (x0 : Vec Ideal S3 .f32) (x1 : Vec Ideal S512x4096 .bf16) (x2 : Vec Ideal S1x4096 .f32) (x3 : Vec Ideal S512x1024 .bf16)
  (x4 : Vec Ideal S4096x1024 .fp8e4m3) (xo6 : Vec Ideal S1x4096 .f32) (xs0 : Vec Ideal S512x4096 .f32)

/-- The codes of the point's block of the upstream gradient. -/
theorem dy_A (hc0 : cond0_0 i) (hc1 : cond0_1 i) (hc2 : ¬cond0_2 i) :
    out0_A_8 c i arg2 harg2 arg3 harg3 arg4 harg4 arg5 harg5 arg6 harg6 arg7 harg7 arg8 harg8 arg9 harg9 arg10 harg10 arg11 harg11 hc0 hc1 hc2 x0 x1 x2 x3 x4 = k0_pay1 x3 (x0 (ix1 1)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 hc1 hc2 x0 x1 x2 x3 x4)]
  unfold kernelRun0_A
  dsimp only
  sl_unfold_words
  rw [View.canon_cons_unit_zero hz]
  simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
  exact congrArg (k0_pay1 x3) (ld_scal1 x0 _ _)

/-- The running product after the point. -/
theorem acc_A (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 hc0 hc1 hc2 x0 x1 x2 x3 x4 = k0_pay3 x3 (x0 (ix1 1)) (k0_pay2 (F := Ideal)) x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4)]
  unfold kernelRun0_A
  dsimp only
  sl_unfold_words
  rw [View.canon_cons_unit_zero hz]
  simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
  exact congrArg (fun s => k0_pay3 x3 s (k0_pay2 (F := Ideal)) x4) (ld_scal1 x0 _ _)

/-- The codes of the point's block of the upstream gradient. -/
theorem dy_B (hc0 : ¬cond0_0 i) (hc1 : ¬cond0_1 i) (hc2 : ¬cond0_2 i) :
    out0_B_8 c i arg2 harg2 arg3 harg3 arg4 harg4 arg5 harg5 arg6 harg6 arg7 harg7 arg8 harg8 arg9 harg9 arg10 harg10 arg11 harg11 hc0 hc1 hc2 x0 x1 x2 x3 x4 xs0 = k0_pay1 x3 (x0 (ix1 1)) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 hc1 hc2 x0 x1 x2 x3 x4 xs0)]
  unfold kernelRun0_B
  dsimp only
  sl_unfold_words
  rw [View.canon_cons_unit_zero hz]
  simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
  exact congrArg (k0_pay1 x3) (ld_scal1 x0 _ _)

/-- The running product after the point. -/
theorem acc_B (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 arg10 harg10 arg11 harg11 hc0 hc1 hc2 x0 x1 x2 x3 x4 xs0 = k0_pay3 x3 (x0 (ix1 1)) (xs0) x4 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 hc2 x0 x1 x2 x3 x4 xs0)]
  unfold kernelRun0_B
  dsimp only
  sl_unfold_words
  rw [View.canon_cons_unit_zero hz]
  simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
  exact congrArg (fun s => k0_pay3 x3 s (xs0) x4) (ld_scal1 x0 _ _)

/-- The codes of the point's block of the upstream gradient. -/
theorem dy_C (hc0 : ¬cond0_0 i) (hc1 : ¬cond0_1 i) (hc2 : cond0_2 i) :
    out0_C_8 c i arg2 harg2 arg3 harg3 arg4 harg4 arg5 harg5 arg6 harg6 arg7 harg7 arg8 harg8 arg9 harg9 arg10 harg10 arg11 harg11 hc0 hc1 hc2 x0 x1 x2 x3 x4 xo6 xs0 = k0_pay1 x3 (x0 (ix1 1)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 hc2 x0 x1 x2 x3 x4 xo6 xs0)]
  unfold kernelRun0_C
  dsimp only
  sl_unfold_words
  rw [View.canon_cons_unit_zero hz]
  simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
  exact congrArg (k0_pay1 x3) (ld_scal1 x0 _ _)

/-- The running product after the point. -/
theorem acc_C (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 arg10 harg10 arg11 harg11 hc0 hc1 hc2 x0 x1 x2 x3 x4 xo6 xs0 = k0_pay3 x3 (x0 (ix1 1)) (xs0) x4 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 hc2 x0 x1 x2 x3 x4 xo6 xs0)]
  unfold kernelRun0_C
  dsimp only
  sl_unfold_words
  rw [View.canon_cons_unit_zero hz]
  simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
  exact congrArg (fun s => k0_pay3 x3 s (xs0) x4) (ld_scal1 x0 _ _)

/-- The codes of the point's block of the upstream gradient. -/
theorem dy_D (hc0 : cond0_0 i) (hc1 : ¬cond0_1 i) (hc2 : ¬cond0_2 i) :
    out0_D_8 c i arg2 harg2 arg3 harg3 arg4 harg4 arg5 harg5 arg6 harg6 arg7 harg7 arg8 harg8 arg9 harg9 arg10 harg10 arg11 harg11 hc0 hc1 hc2 x0 x1 x2 x3 x4 = k0_pay1 x3 (x0 (ix1 1)) := by
  unfold out0_D_8
  rw [View.read_writes_eq_canon _ _ _ (cover0_D_8 c i arg2 harg2 arg3 harg3 arg4 harg4 arg5 harg5 arg6 harg6 arg7 harg7 arg8 harg8 arg9 harg9 arg10 harg10 arg11 harg11 hc0 hc1 hc2 x0 x1 x2 x3 x4)]
  unfold kernelRun0_D
  dsimp only
  sl_unfold_words
  rw [View.canon_cons_unit_zero hz]
  simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
  exact congrArg (k0_pay1 x3) (ld_scal1 x0 _ _)

/-- The running product after the point. -/
theorem acc_D (hc0 : cond0_0 i) (hc1 : ¬cond0_1 i) (hc2 : ¬cond0_2 i) :
    sout0_D_0 c i arg2 harg2 arg3 harg3 arg4 harg4 arg5 harg5 arg6 harg6 arg7 harg7 arg8 harg8 arg9 harg9 arg10 harg10 arg11 harg11 hc0 hc1 hc2 x0 x1 x2 x3 x4 = k0_pay3 x3 (x0 (ix1 1)) (k0_pay2 (F := Ideal)) x4 := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 hc0 hc1 hc2 x0 x1 x2 x3 x4)]
  unfold kernelRun0_D
  dsimp only
  sl_unfold_words
  rw [View.canon_cons_unit_zero hz]
  simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
  exact congrArg (fun s => k0_pay3 x3 s (k0_pay2 (F := Ideal)) x4) (ld_scal1 x0 _ _)

/-- The first point leaves the scale-and-shift gradient at zero. -/
theorem dg_A (hc0 : cond0_0 i) (hc1 : cond0_1 i) (hc2 : ¬cond0_2 i) :
    out0_A_6 c i arg2 harg2 arg3 harg3 arg4 harg4 arg5 harg5 arg6 harg6 arg7 harg7 arg8 harg8 arg9 harg9 arg10 harg10 arg11 harg11 hc0 hc1 hc2 x0 x1 x2 x3 x4 = k0_pay4 (F := Ideal) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 hc1 hc2 x0 x1 x2 x3 x4)]
  unfold kernelRun0_A
  dsimp only
  sl_unfold_words
  rw [View.canon_cons_unit_zero hz]

end

end Cert.DgradIdeal.Hand

end
-- ==== Proof.DgradMath.lean ====
/-
  The input gradient of one row, as the reference's mathematics says it: the normalised row, its codes,
  the gradient of the row, over the extended reals; and how a sum splits into equal blocks.
-/
module

public import Idealize.ShloMosaic.Lib.Pointwise

@[expose] public section

noncomputable section

namespace Cert.DgradMath

open Idealize.ShloMosaic
open scoped BigOperators

/-- One over the root mean square of a row: `rsqrt (mean (x * x) + eps)`. -/
def rInv (x : Fin 4096 → EReal) : EReal :=
  Ideal.rsqrt (Ideal.div (∑ j, x j * x j) (Ideal.ofBits FTy.f32 1166016512#32) + Ideal.ofBits FTy.f32 897988541#32)

/-- The row divided by its root mean square. -/
def xhat (x : Fin 4096 → EReal) (d : Fin 4096) : EReal := x d * rInv x

/-- A forward code: the normalised row times the weights, times the inverse scale, clipped to ±448. -/
def xnCode (x g : Fin 4096 → EReal) (s : EReal) (d : Fin 4096) : EReal :=
  min (Ideal.ofBits FTy.f32 1138753536#32) (max (Ideal.ofBits FTy.f32 3286237184#32) (xhat x d * g d * s))

/-- A gradient code: the entry times the inverse scale, clipped to ±57344. -/
def dyCode (v s : EReal) : EReal :=
  min (Ideal.ofBits FTy.f32 1197473792#32) (max (Ideal.ofBits FTy.f32 3344957440#32) (v * s))

/-- The gradient of a row `x`, from the products `a` of the codes, their scale `s` and the weights `g`:
    `r * (dxn * g - xhat * mean (dxn * g * xhat))` with `dxn = a * s`. -/
def dx (x a g : Fin 4096 → EReal) (s : EReal) (d : Fin 4096) : EReal :=
  rInv x * (a d * s * g d - xhat x d * Ideal.div (∑ j, a j * s * g j * xhat x j) (Ideal.ofBits FTy.f32 1166016512#32))

/-- A row's part of the gradient of the weights: `dxn * xhat`. -/
def dgTerm (x a : Fin 4096 → EReal) (s : EReal) (d : Fin 4096) : EReal := a d * s * xhat x d

/-- A finite family continued by zero. -/
def ext {N : ℕ} (f : Fin N → EReal) (q : ℕ) : EReal := if h : q < N then f ⟨q, h⟩ else 0

theorem ext_lt {N : ℕ} (f : Fin N → EReal) {q : ℕ} (h : q < N) : ext f q = f ⟨q, h⟩ := dif_pos h

/-- A sum over `n * m` terms, block by block. -/
theorem sum_blocks (f : ℕ → EReal) (m : ℕ) : ∀ n : ℕ,
    ∑ k ∈ Finset.range n, ∑ r : Fin m, f (m * k + r.val) = ∑ q ∈ Finset.range (m * n), f q
  | 0 => by simp
  | n + 1 => by
    rw [Finset.sum_range_succ, sum_blocks f m n, Nat.mul_succ, Finset.sum_range_add]
    congr 1
    exact (Finset.sum_range (fun r => f (m * n + r))).symm

/-- The sum of a family of `N = m * n` terms, block by block. -/
theorem sum_ext {N : ℕ} (f : Fin N → EReal) (m n : ℕ) (h : m * n = N) :
    ∑ k ∈ Finset.range n, ∑ r : Fin m, ext f (m * k + r.val) = ∑ q, f q := by
  rw [sum_blocks, h, Finset.sum_range]
  exact Finset.sum_congr rfl fun q _ => ext_lt f q.isLt

end Cert.DgradMath

end
-- ==== Proof.DgradRows.lean ====
/-
  The row loop at the last block of the contraction: each trip takes 32 rows of the block of `x` and of the finished
  product; together the trips write every row's gradient and codes and add every row's part to the weight gradient.
-/
module

public import proofs.«01_k».proof.Proof.DgradIdealFrame.Value
public import proofs.«01_k».proof.Proof.DgradCases
public import proofs.«01_k».proof.Proof.DgradMath
public import Idealize.ShloMosaic.Lib.VecWindow
public import Idealize.ShloMosaic.Lib.Pointwise

@[expose] public section

set_option maxRecDepth 16384

noncomputable section

namespace Cert.DgradIdeal.Hand

open Cert.DgradIdeal Cert.DgradIdeal.Gen Idealize.ShloMosaic Idealize.ShloMosaic.TcCoe Idealize.SL.Sem
open Idealize.ShloMosaic.Pipeline (Dat)
open Idealize.ShloMosaic.Pointwise
open Cert.DgradMath
open scoped BigOperators

/-- The rows trip `k` takes. -/
abbrev rows (i : grid0.Coords) (h3 : k0_cond3 i = 1#1) (k : Fin k0_t1_loop.trips) : Rect S512x4096 :=
  Rect.unit (s := S512x4096) (k0_off1 k) S32x4096.size (k0_off1_inb i k h3)

theorem trip_lt (k : Fin k0_t1_loop.trips) : k.val < 16 := Nat.lt_of_lt_of_le k.isLt k0_t1_abs.2.1

/-- Row `r` of trip `k` is row `32 k + r` of the block. -/
theorem rows_emb (i : grid0.Coords) (h3 : k0_cond3 i = 1#1) (k : Fin k0_t1_loop.trips) (r : Fin 32) (d : Fin 4096)
    (h : 32 * k.val + r.val < 512) :
    (rows i h3 k).emb (ix2 r d) = ix2 (⟨32 * k.val + r.val, h⟩ : Fin 512) d := by
  have e0 : k0_off1 k (0 : Fin 2) = 32 * k.val := by rw [k0_off1_eq]; rfl
  have e1 : k0_off1 k (1 : Fin 2) = 0 := by rw [k0_off1_eq]; rfl
  funext a
  apply Fin.ext
  match a with
  | ⟨0, _⟩ => show k0_off1 k (0 : Fin 2) + 1 * r.val = 32 * k.val + r.val; rw [e0]; omega
  | ⟨1, _⟩ => show k0_off1 k (1 : Fin 2) + 1 * d.val = d.val; rw [e1]; omega

theorem ld_rows {e : EltTy} (x : Vec Ideal S512x4096 e) (i : grid0.Coords) (h3 : k0_cond3 i = 1#1) (k : Fin k0_t1_loop.trips) (r : Fin 32) (d : Fin 4096)
    (h : 32 * k.val + r.val < 512) :
    View.ld x (rows i h3 k) (ix2 r d) = x (ix2 (⟨32 * k.val + r.val, h⟩ : Fin 512) d) :=
  congrArg x (rows_emb i h3 k r d h)

/-- One trip's gradient rows, as the payload of what it reads. -/
def P5 (v33 : Vec Ideal S32x4096 .bf16) (v61 : Vec Ideal S32x4096 .f32) (s : Elt Ideal .f32) (v65 : Vec Ideal S1x4096 .f32) : FVec Ideal S32x4096 .bf16 :=
  k0_pay5 (k0_pay8 v33) (k0_pay9 v33) (k0_pay12 v61 s v65) (k0_pay13 v33 v61 s v65) (FloatOps.ofBits FTy.f32 1166016512#32)

/-- The gradient of a row, at an entry. -/
theorem P5_apply (v33 : Vec Ideal S32x4096 .bf16) (v61 : Vec Ideal S32x4096 .f32) (s : Elt Ideal .f32) (v65 : Vec Ideal S1x4096 .f32) (r : Fin 32) (d : Fin 4096) :
    P5 v33 v61 s v65 (ix2 r d) = dx (fun j => v33 (ix2 r j)) (fun j => v61 (ix2 r j)) (fun j => v65 (ix2 0 j)) s d := by
  unfold P5 dx xhat rInv
  pointwise [k0_pay5, k0_pay8, k0_pay9, k0_pay12, k0_pay13, k0_pay11, k0_pay7]

/-- The forward codes of a row, at an entry. -/
theorem P10_apply (v33 : Vec Ideal S32x4096 .bf16) (v65 : Vec Ideal S1x4096 .f32) (s : Elt Ideal .f32) (r : Fin 32) (d : Fin 4096) :
    k0_pay10 (F := Ideal) v33 v65 s (ix2 r d) = xnCode (fun j => v33 (ix2 r j)) (fun j => v65 (ix2 0 j)) s d := by
  unfold xnCode xhat rInv
  pointwise [k0_pay10, k0_pay8, k0_pay9, k0_pay7]

/-- A trip adds its rows' parts to the weight gradient. -/
theorem P6_apply (v33 : Vec Ideal S32x4096 .bf16) (v61 : Vec Ideal S32x4096 .f32) (s : Elt Ideal .f32) (g : Vec Ideal S1x4096 .f32) (d : Fin 4096) :
    k0_pay6 (F := Ideal) (k0_pay9 v33) (k0_pay11 v61 s) g (ix2 (0 : Fin 1) d)
      = g (ix2 0 d) + ∑ r : Fin 32, dgTerm (fun j => v33 (ix2 r j)) (fun j => v61 (ix2 r j)) s d := by
  unfold dgTerm xhat rInv
  pointwise [k0_pay6, k0_pay8, k0_pay9, k0_pay11, k0_pay7]

section

variable (c : Dev nD) (i : grid0.Coords) (arg2 : Memref sig .tc .smem S3 .f32) (harg2 : arg2.IsWhole)
  (arg3 : Memref sig .tc .vmem S512x4096 .bf16) (harg3 : arg3.IsWhole) (arg4 : Memref sig .tc .vmem S1x4096 .f32) (harg4 : arg4.IsWhole)
  (arg5 : Memref sig .tc .vmem S512x1024 .bf16) (harg5 : arg5.IsWhole) (arg6 : Memref sig .tc .vmem S4096x1024 .fp8e4m3) (harg6 : arg6.IsWhole)
  (arg7 : Memref sig .tc .vmem S512x4096 .bf16) (harg7 : arg7.IsWhole) (arg8 : Memref sig .tc .vmem S1x4096 .f32) (harg8 : arg8.IsWhole)
  (arg9 : Memref sig .tc .vmem S512x4096 .fp8e4m3) (harg9 : arg9.IsWhole) (arg10 : Memref sig .tc .vmem S512x1024 .fp8e5m2) (harg10 : arg10.IsWhole)
  (arg11 : Memref sig .tc .vmem S512x4096 .f32) (harg11 : arg11.IsWhole)
variable (x0 : Vec Ideal S3 .f32) (x1 : Vec Ideal S512x4096 .bf16) (x2 : Vec Ideal S1x4096 .f32) (x3 : Vec Ideal S512x1024 .bf16)
  (x4 : Vec Ideal S4096x1024 .fp8e4m3) (xo6 : Vec Ideal S1x4096 .f32) (xs0 : Vec Ideal S512x4096 .f32)

/-- One trip's stores. -/
theorem trip_eq (h3 : k0_cond3 i = 1#1) (Xs : BufTy.Contents (Elt Ideal) arg11.view.ty) (hXs : arg11.view.read (Elt Ideal) Xs = xs0) (k : Fin k0_t1_loop.trips) (f7) (f8) (f9) :
  (tripL_k0_t1 (F := Ideal) Variants.none c none i arg2 harg2 arg3 harg3 arg4 harg4 arg5 harg5 arg6 harg6 arg7 harg7 arg8 harg8 arg9 harg9 arg10 harg10 arg11 harg11 h3 (harg2.unread x0) (harg3.unread x1) (harg4.unread x2) Xs k f7 f8 f9)
    = ([⟨rows i h3 k, P5 (View.ld x1 (rows i h3 k)) (View.ld xs0 (rows i h3 k)) (x0 (ix1 2)) x2⟩],
       [⟨Rect.unit (s := S1x4096) ![0, 0] S1x4096.size inb_S1x4096_S1x4096_0_0,
          k0_pay6 (k0_pay9 (View.ld x1 (rows i h3 k))) (k0_pay11 (View.ld xs0 (rows i h3 k)) (x0 (ix1 2))) (arg8.view.read (Elt Ideal) f8)⟩],
       [⟨rows i h3 k, k0_pay10 (View.ld x1 (rows i h3 k)) x2 (x0 (ix1 0))⟩]) := by
  have e2 := fun h' => ld_scal2 x0 inb_S3_S1_2 h'
  have e0 := fun h' => ld_scal0 x0 inb_S3_S1_0 h'
  unfold tripL_k0_t1 trip_k0_t1
  dsimp only
  sl_unfold_words
  simp only [View.readAt_eq_ld, harg2.read_unread, harg3.read_unread, harg4.read_unread, hXs, View.ld_unit_zero (S := S1x4096) hz, shapeCast_self]
  rw [← e2 (by decide), ← e0 (by decide)]
  rfl

/-- The trips' gradient pieces are each some trip's. -/
theorem pieces5 (h3 : k0_cond3 i = 1#1) (Xs : BufTy.Contents (Elt Ideal) arg11.view.ty) (hXs : arg11.view.read (Elt Ideal) Xs = xs0) :
    ∀ n, ∀ p ∈ (pb_k0_t1 (F := Ideal) Variants.none c none i arg2 harg2 arg3 harg3 arg4 harg4 arg5 harg5 arg6 harg6 arg7 harg7 arg8 harg8 arg9 harg9 arg10 harg10 arg11 harg11 h3 (harg2.unread x0) (harg3.unread x1) (harg4.unread x2) Xs arg7.view.junk (harg8.unread xo6) arg9.view.junk n).1, ∃ k : Fin k0_t1_loop.trips, p = ⟨rows i h3 k, P5 (View.ld x1 (rows i h3 k)) (View.ld xs0 (rows i h3 k)) (x0 (ix1 2)) x2⟩
  | 0 => fun p hp => by exact absurd hp (List.not_mem_nil)
  | n + 1 => fun p hp => by
    by_cases h : n < k0_t1_loop.trips
    · have e := pb_k0_t1_succ (F := Ideal) Variants.none c none i arg2 harg2 arg3 harg3 arg4 harg4 arg5 harg5 arg6 harg6 arg7 harg7 arg8 harg8 arg9 harg9 arg10 harg10 arg11 harg11 h3 (harg2.unread x0) (harg3.unread x1) (harg4.unread x2) Xs arg7.view.junk (harg8.unread xo6) arg9.view.junk ⟨n, h⟩
      rw [e] at hp
      rw [trip_eq c i arg2 harg2 arg3 harg3 arg4 harg4 arg5 harg5 arg6 harg6 arg7 harg7 arg8 harg8 arg9 harg9 arg10 harg10 arg11 harg11 x0 x1 x2 xs0 h3 Xs hXs] at hp
      rcases List.mem_append.1 hp with hp | hp
      · exact ⟨⟨n, h⟩, List.mem_singleton.1 hp⟩
      · exact pieces5 h3 Xs hXs n p hp
    · rw [pb_k0_t1.eq_2] at hp
      unfold pb_k0_t1Step at hp
      rw [dif_neg h] at hp
      exact pieces5 h3 Xs hXs n p hp

/-- The trips' code pieces are each some trip's. -/
theorem pieces7 (h3 : k0_cond3 i = 1#1) (Xs : BufTy.Contents (Elt Ideal) arg11.view.ty) (hXs : arg11.view.read (Elt Ideal) Xs = xs0) :
    ∀ n, ∀ p ∈ (pb_k0_t1 (F := Ideal) Variants.none c none i arg2 harg2 arg3 harg3 arg4 harg4 arg5 harg5 arg6 harg6 arg7 harg7 arg8 harg8 arg9 harg9 arg10 harg10 arg11 harg11 h3 (harg2.unread x0) (harg3.unread x1) (harg4.unread x2) Xs arg7.view.junk (harg8.unread xo6) arg9.view.junk n).2.2, ∃ k : Fin k0_t1_loop.trips, p = ⟨rows i h3 k, k0_pay10 (View.ld x1 (rows i h3 k)) x2 (x0 (ix1 0))⟩
  | 0 => fun p hp => by exact absurd hp (List.not_mem_nil)
  | n + 1 => fun p hp => by
    by_cases h : n < k0_t1_loop.trips
    · have e := pb_k0_t1_succ (F := Ideal) Variants.none c none i arg2 harg2 arg3 harg3 arg4 harg4 arg5 harg5 arg6 harg6 arg7 harg7 arg8 harg8 arg9 harg9 arg10 harg10 arg11 harg11 h3 (harg2.unread x0) (harg3.unread x1) (harg4.unread x2) Xs arg7.view.junk (harg8.unread xo6) arg9.view.junk ⟨n, h⟩
      rw [e] at hp
      rw [trip_eq c i arg2 harg2 arg3 harg3 arg4 harg4 arg5 harg5 arg6 harg6 arg7 harg7 arg8 harg8 arg9 harg9 arg10 harg10 arg11 harg11 x0 x1 x2 xs0 h3 Xs hXs] at hp
      rcases List.mem_append.1 hp with hp | hp
      · exact ⟨⟨n, h⟩, List.mem_singleton.1 hp⟩
      · exact pieces7 h3 Xs hXs n p hp
    · rw [pb_k0_t1.eq_2] at hp
      unfold pb_k0_t1Step at hp
      rw [dif_neg h] at hp
      exact pieces7 h3 Xs hXs n p hp

/-- After `n` trips the weight gradient holds what it held before plus the parts of the first `32 n` rows. -/
theorem dg_trips (h3 : k0_cond3 i = 1#1) (Xs : BufTy.Contents (Elt Ideal) arg11.view.ty) (hXs : arg11.view.read (Elt Ideal) Xs = xs0) (d : Fin 4096) :
    ∀ n, n ≤ 16 → arg8.view.read (Elt Ideal) (arg8.view.writes (Elt Ideal) (harg8.unread xo6) (pb_k0_t1 (F := Ideal) Variants.none c none i arg2 harg2 arg3 harg3 arg4 harg4 arg5 harg5 arg6 harg6 arg7 harg7 arg8 harg8 arg9 harg9 arg10 harg10 arg11 harg11 h3 (harg2.unread x0) (harg3.unread x1) (harg4.unread x2) Xs arg7.view.junk (harg8.unread xo6) arg9.view.junk n).2.1) (ix2 (0 : Fin 1) d)
      = xo6 (ix2 0 d) + ∑ k ∈ Finset.range n, ∑ r : Fin 32,
          ext (fun q : Fin 512 => dgTerm (fun j => x1 (ix2 q j)) (fun j => xs0 (ix2 q j)) (x0 (ix1 2)) d) (32 * k + r.val)
  | 0, _ => by
    rw [Finset.sum_range_zero, add_zero]
    exact congrFun (harg8.read_unread xo6) (ix2 0 d)
  | n + 1, hn => by
    have h : n < k0_t1_loop.trips := by
      have : k0_t1_loop.trips = 16 := by decide
      omega
    have e := pb_k0_t1_succ (F := Ideal) Variants.none c none i arg2 harg2 arg3 harg3 arg4 harg4 arg5 harg5 arg6 harg6 arg7 harg7 arg8 harg8 arg9 harg9 arg10 harg10 arg11 harg11 h3 (harg2.unread x0) (harg3.unread x1) (harg4.unread x2) Xs arg7.view.junk (harg8.unread xo6) arg9.view.junk ⟨n, h⟩
    rw [e]
    rw [trip_eq c i arg2 harg2 arg3 harg3 arg4 harg4 arg5 harg5 arg6 harg6 arg7 harg7 arg8 harg8 arg9 harg9 arg10 harg10 arg11 harg11 x0 x1 x2 xs0 h3 Xs hXs]
    have w := View.read_writes_full arg8.view (harg8.unread xo6) (off := ![0, 0]) inb_S1x4096_S1x4096_0_0 (Val := Elt Ideal)
    refine (congrFun (w _ _) (ix2 (0 : Fin 1) d)).trans ?_
    refine (P6_apply _ _ _ _ d).trans ?_
    rw [Finset.sum_range_succ, ← add_assoc]
    refine congrArg₂ (· + ·) (dg_trips h3 Xs hXs d n (by omega)) ?_
    refine Finset.sum_congr rfl fun r _ => ?_
    have hr : 32 * n + r.val < 512 := by have := r.isLt; omega
    rw [ext_lt _ hr]
    exact congrArg₂ (fun u v => dgTerm u v (x0 (ix1 2)) d) (funext fun j => ld_rows x1 i h3 ⟨n, h⟩ r j hr) (funext fun j => ld_rows xs0 i h3 ⟨n, h⟩ r j hr)

end

end Cert.DgradIdeal.Hand

end
-- ==== Proof.DgradLast.lean ====
/-
  What the last block of the contraction leaves: the rows' gradients and codes, and the weight gradient with the rows'
  parts added.
-/
module

public import proofs.«01_k».proof.Proof.DgradIdealFrame.Value
public import proofs.«01_k».proof.Proof.DgradRows
public import Idealize.ShloMosaic.Lib.Pointwise

@[expose] public section

set_option maxRecDepth 16384

noncomputable section

namespace Cert.DgradIdeal.Hand

open Cert.DgradIdeal Cert.DgradIdeal.Gen Idealize.ShloMosaic Idealize.ShloMosaic.TcCoe Idealize.SL.Sem
open Idealize.ShloMosaic.Pipeline (Dat)
open Idealize.ShloMosaic.Pointwise
open Cert.DgradMath
open scoped BigOperators

section

variable (c : Dev nD) (i : grid0.Coords) (arg2 : Memref sig .tc .smem S3 .f32) (harg2 : arg2.IsWhole)
  (arg3 : Memref sig .tc .vmem S512x4096 .bf16) (harg3 : arg3.IsWhole) (arg4 : Memref sig .tc .vmem S1x4096 .f32) (harg4 : arg4.IsWhole)
  (arg5 : Memref sig .tc .vmem S512x1024 .bf16) (harg5 : arg5.IsWhole) (arg6 : Memref sig .tc .vmem S4096x1024 .fp8e4m3) (harg6 : arg6.IsWhole)
  (arg7 : Memref sig .tc .vmem S512x4096 .bf16) (harg7 : arg7.IsWhole) (arg8 : Memref sig .tc .vmem S1x4096 .f32) (harg8 : arg8.IsWhole)
  (arg9 : Memref sig .tc .vmem S512x4096 .fp8e4m3) (harg9 : arg9.IsWhole) (arg10 : Memref sig .tc .vmem S512x1024 .fp8e5m2) (harg10 : arg10.IsWhole)
  (arg11 : Memref sig .tc .vmem S512x4096 .f32) (harg11 : arg11.IsWhole)
variable (x0 : Vec Ideal S3 .f32) (x1 : Vec Ideal S512x4096 .bf16) (x2 : Vec Ideal S1x4096 .f32) (x3 : Vec Ideal S512x1024 .bf16)
  (x4 : Vec Ideal S4096x1024 .fp8e4m3) (xo6 : Vec Ideal S1x4096 .f32) (xs0 : Vec Ideal S512x4096 .f32)

/-- The finished product, read back whole. -/
theorem acc_read (y : Vec Ideal S512x4096 .f32) (f : BufTy.Contents (Elt Ideal) arg11.view.ty) (h : ∀ a, (![0, 0] : Fin 2 → ℕ) a + S512x4096.size a ≤ S512x4096.size a) :
    arg11.view.read (Elt Ideal) (arg11.view.writes (Elt Ideal) f [⟨Rect.unit (s := S512x4096) ![0, 0] S512x4096.size h, y⟩]) = y :=
  View.read_writes_full arg11.view f (off := ![0, 0]) h y []

/-- The finished product as the last block's run names it. -/
abbrev last : Vec Ideal S512x4096 .f32 := k0_pay3 x3 (x0 (ix1 1)) xs0 x4

/-- The gradients of the block's rows. -/
theorem out_C_5 (hc0 : ¬cond0_0 i) (hc1 : ¬cond0_1 i) (hc2 : cond0_2 i) (q : Fin 512) (d : Fin 4096) :
    out0_C_5 c i arg2 harg2 arg3 harg3 arg4 harg4 arg5 harg5 arg6 harg6 arg7 harg7 arg8 harg8 arg9 harg9 arg10 harg10 arg11 harg11 hc0 hc1 hc2 x0 x1 x2 x3 x4 xo6 xs0 (ix2 q d) = dx (fun j => x1 (ix2 q j)) (fun j => last x0 x3 x4 xs0 (ix2 q j)) (fun j => x2 (ix2 0 j)) (x0 (ix1 2)) d := by
  have cov := cover0_C_5 c i arg2 harg2 arg3 harg3 arg4 harg4 arg5 harg5 arg6 harg6 arg7 harg7 arg8 harg8 arg9 harg9 arg10 harg10 arg11 harg11 hc0 hc1 hc2 x0 x1 x2 x3 x4 xo6 xs0 (ix2 q d)
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 hc2 x0 x1 x2 x3 x4 xo6 xs0)]
  refine View.canon_apply_of_pieces (Val := Elt Ideal) (S := S512x4096) (e := .bf16) (fun j => dx (fun e => x1 (ix2 (j 0 : Fin 512) e)) (fun e => last x0 x3 x4 xs0 (ix2 (j 0 : Fin 512) e)) (fun e => x2 (ix2 0 e)) (x0 (ix1 2)) (j 1)) _ ?_ (ix2 q d) cov
  unfold kernelRun0_C
  dsimp only
  sl_unfold_words
  intro p hp
  obtain ⟨k, rfl⟩ := pieces5 c i arg2 harg2 arg3 harg3 arg4 harg4 arg5 harg5 arg6 harg6 arg7 harg7 arg8 harg8 arg9 harg9 arg10 harg10 arg11 harg11 x0 x1 x2 xo6 (last x0 x3 x4 xs0) hc2 _ (by
    refine (acc_read arg11 _ _ _).trans ?_
    simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
    exact congrArg (fun s => k0_pay3 x3 s xs0 x4) (ld_scal1 x0 _ _)) _ p hp
  intro x
  obtain ⟨a, b, rfl⟩ : ∃ (a : Fin 32) (b : Fin 4096), x = ix2 a b := ⟨x 0, x 1, eq_ix2 (n0 := 32) (n1 := 4096) x⟩
  have hr : 32 * k.val + a.val < 512 := by have := trip_lt k; have := a.isLt; omega
  dsimp only
  rw [rows_emb i hc2 k a b hr]
  refine (P5_apply _ _ _ _ a b).trans ?_
  exact congrArg₂ (fun u v => dx u v (fun e => x2 (ix2 0 e)) (x0 (ix1 2)) b) (funext fun j => ld_rows x1 i hc2 k a j hr) (funext fun j => ld_rows (last x0 x3 x4 xs0) i hc2 k a j hr)

/-- The forward codes of the block's rows. -/
theorem out_C_7 (hc0 : ¬cond0_0 i) (hc1 : ¬cond0_1 i) (hc2 : cond0_2 i) (q : Fin 512) (d : Fin 4096) :
    out0_C_7 c i arg2 harg2 arg3 harg3 arg4 harg4 arg5 harg5 arg6 harg6 arg7 harg7 arg8 harg8 arg9 harg9 arg10 harg10 arg11 harg11 hc0 hc1 hc2 x0 x1 x2 x3 x4 xo6 xs0 (ix2 q d) = xnCode (fun j => x1 (ix2 q j)) (fun j => x2 (ix2 0 j)) (x0 (ix1 0)) d := by
  have cov := cover0_C_7 c i arg2 harg2 arg3 harg3 arg4 harg4 arg5 harg5 arg6 harg6 arg7 harg7 arg8 harg8 arg9 harg9 arg10 harg10 arg11 harg11 hc0 hc1 hc2 x0 x1 x2 x3 x4 xo6 xs0 (ix2 q d)
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 hc2 x0 x1 x2 x3 x4 xo6 xs0)]
  refine View.canon_apply_of_pieces (Val := Elt Ideal) (S := S512x4096) (e := .fp8e4m3) (fun j => xnCode (fun e => x1 (ix2 (j 0 : Fin 512) e)) (fun e => x2 (ix2 0 e)) (x0 (ix1 0)) (j 1)) _ ?_ (ix2 q d) cov
  unfold kernelRun0_C
  dsimp only
  sl_unfold_words
  intro p hp
  obtain ⟨k, rfl⟩ := pieces7 c i arg2 harg2 arg3 harg3 arg4 harg4 arg5 harg5 arg6 harg6 arg7 harg7 arg8 harg8 arg9 harg9 arg10 harg10 arg11 harg11 x0 x1 x2 xo6 (last x0 x3 x4 xs0) hc2 _ (by
    refine (acc_read arg11 _ _ _).trans ?_
    simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
    exact congrArg (fun s => k0_pay3 x3 s xs0 x4) (ld_scal1 x0 _ _)) _ p hp
  intro x
  obtain ⟨a, b, rfl⟩ : ∃ (a : Fin 32) (b : Fin 4096), x = ix2 a b := ⟨x 0, x 1, eq_ix2 (n0 := 32) (n1 := 4096) x⟩
  have hr : 32 * k.val + a.val < 512 := by have := trip_lt k; have := a.isLt; omega
  dsimp only
  rw [rows_emb i hc2 k a b hr]
  refine (P10_apply _ _ _ a b).trans ?_
  exact congrArg (fun u => xnCode u (fun e => x2 (ix2 0 e)) (x0 (ix1 0)) b) (funext fun j => ld_rows x1 i hc2 k a j hr)

/-- The weight gradient, with the parts of the block's rows added. -/
theorem out_C_6 (hc0 : ¬cond0_0 i) (hc1 : ¬cond0_1 i) (hc2 : cond0_2 i) (d : Fin 4096) :
    out0_C_6 c i arg2 harg2 arg3 harg3 arg4 harg4 arg5 harg5 arg6 harg6 arg7 harg7 arg8 harg8 arg9 harg9 arg10 harg10 arg11 harg11 hc0 hc1 hc2 x0 x1 x2 x3 x4 xo6 xs0 (ix2 (0 : Fin 1) d) = xo6 (ix2 0 d) + ∑ q : Fin 512, dgTerm (fun j => x1 (ix2 q j)) (fun j => last x0 x3 x4 xs0 (ix2 q j)) (x0 (ix1 2)) d := by
  unfold out0_C_6
  rw [View.read_writes_of_cover VO0_6 VO0_6.junk arg8.view (harg8.unread xo6) _ (cover0_C_6 c i arg2 harg2 arg3 harg3 arg4 harg4 arg5 harg5 arg6 harg6 arg7 harg7 arg8 harg8 arg9 harg9 arg10 harg10 arg11 harg11 hc0 hc1 hc2 x0 x1 x2 x3 x4 xo6 xs0)]
  unfold kernelRun0_C
  dsimp only
  sl_unfold_words
  refine (dg_trips c i arg2 harg2 arg3 harg3 arg4 harg4 arg5 harg5 arg6 harg6 arg7 harg7 arg8 harg8 arg9 harg9 arg10 harg10 arg11 harg11 x0 x1 x2 xo6 (last x0 x3 x4 xs0) hc2 _ ?_ d _ (by decide)).trans ?_
  · refine (acc_read arg11 _ _ _).trans ?_
    simp only [View.readAt_eq_ld, harg2.read_unread, harg3.read_unread, harg4.read_unread, harg5.read_unread, harg6.read_unread, harg11.read_unread, View.ld_unit_zero (S := S512x1024) hz, View.ld_unit_zero (S := S4096x1024) hz, View.ld_unit_zero (S := S512x4096) hz, View.readCov_unit_zero (S := S512x4096) _ hz, shapeCast_self]
    exact congrArg (fun s => k0_pay3 x3 s xs0 x4) (ld_scal1 x0 _ _)
  · refine congrArg (xo6 (ix2 0 d) + ·) ?_
    exact sum_ext _ 32 16 rfl

end

end Cert.DgradIdeal.Hand

end
-- ==== Proof.DgradFold.lean ====
/-
  The input-gradient kernel over its 64 grid points: which blocks of the arguments each point reads, what the running
  product and the weight gradient hold after each point.
-/
module

public import proofs.«01_k».proof.Proof.DgradIdealFrame.Value
public import proofs.«01_k».proof.Proof.DgradLast
public import Idealize.ShloMosaic.Lib.Pointwise

@[expose] public section

set_option maxRecDepth 16384

noncomputable section

namespace Cert.DgradIdeal.Hand

open Cert.DgradIdeal Cert.DgradIdeal.Gen Idealize.ShloMosaic Idealize.ShloMosaic.TcCoe Idealize.SL.Sem
open Idealize.ShloMosaic.Pipeline (Dat)
open Idealize.ShloMosaic.Pointwise
open Cert.DgradMath
open scoped BigOperators

variable (m : (ℓ : Loc nD τ sig) → Buf (Elt Ideal) ℓ)

/-- The rows of `x`, as the call gets them. -/
def X (c : Dev nD) (q : Fin 2048) (d : Fin 4096) : EReal := V m c main_v0 (ix2 q d)
/-- The norm's weights. -/
def Gm (c : Dev nD) (d : Fin 4096) : EReal := V m c main_v2 (ix2 (0 : Fin 1) d)
/-- The upstream gradient. -/
def DY (c : Dev nD) (q : Fin 2048) (o : Fin 16384) : EReal := V m c main_v1 (ix2 q o)
/-- The weight codes. -/
def W (c : Dev nD) (d : Fin 4096) (o : Fin 16384) : EReal := m ((c : Thread nD τ).loc main_arg2) (ix2 d o)
/-- The three scalars: both inverse scales, and the scale of the product. -/
def scal (c : Dev nD) (k : Fin 3) : EReal := V m c main_v4 (ix1 k)

/-- Row `q` of the block of rows at point `t`. -/
abbrev row (t : Fin cfg0.N) (q : Fin 512) : Fin 2048 :=
  ⟨512 * (t.val / 16) + q.val, by have := lt_of_lt_of_eq t.isLt (show cfg0.N = 64 from N_0); have := q.isLt; omega⟩
/-- Column `r` of the block of the contraction at point `t`. -/
abbrev col (t : Fin cfg0.N) (r : Fin 1024) : Fin 16384 :=
  ⟨1024 * (t.val % 16) + r.val, by have := r.isLt; omega⟩

/-- The index maps at point `t`. -/
theorem idx_all : ∀ t : Fin cfg0.N, win0_1.index t (0 : Fin 2) = t.val / 16 ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = t.val % 16
    ∧ win0_4.index t (0 : Fin 2) = 0 ∧ win0_4.index t (1 : Fin 2) = t.val % 16
    ∧ win0_0.index t (0 : Fin 1) = 0 :=
  (by decide +kernel : ∀ t : Fin grid0.N, win0_1.index t (0 : Fin 2) = t.val / 16 ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = t.val % 16
    ∧ win0_4.index t (0 : Fin 2) = 0 ∧ win0_4.index t (1 : Fin 2) = t.val % 16
    ∧ win0_0.index t (0 : Fin 1) = 0)

/-- The scalars' window holds them at every point. -/
theorem iblk0 (c : Dev nD) (t : Fin cfg0.N) (k : Fin 3) : iblk m c 0 t (ix1 k) = scal m c k := by
  obtain ⟨_, _, _, _, _, _, _, _, h0⟩ := idx_all t
  unfold iblk scal
  rw [View.read_apply]
  show V m c main_v4 _ = _
  refine congrArg _ ?_
  funext x
  apply Fin.ext
  match x with
  | ⟨0, _⟩ => show win0_0.index t (0 : Fin 1) * 3 + 1 * k.val = k.val; rw [h0]; omega

/-- The block of `x` at point `t`: its rows, all columns. -/
theorem iblk1 (c : Dev nD) (t : Fin cfg0.N) (q : Fin 512) (d : Fin 4096) : iblk m c 1 t (ix2 q d) = X m c (row t q) d := by
  obtain ⟨h0, h1, _⟩ := idx_all t
  unfold iblk X
  rw [View.read_apply]
  show V m c main_v0 _ = _
  refine congrArg _ ?_
  funext x
  apply Fin.ext
  match x with
  | ⟨0, _⟩ => show win0_1.index t (0 : Fin 2) * 512 + 1 * q.val = 512 * (t.val / 16) + q.val; rw [h0]; omega
  | ⟨1, _⟩ => show win0_1.index t (1 : Fin 2) * 4096 + 1 * d.val = d.val; rw [h1]; omega

/-- The norm's weights at point `t`: all of them. -/
theorem iblk2 (c : Dev nD) (t : Fin cfg0.N) (d : Fin 4096) : iblk m c 2 t (ix2 (0 : Fin 1) d) = Gm m c d := by
  obtain ⟨_, _, h0, h1, _⟩ := idx_all t
  unfold iblk Gm
  rw [View.read_apply]
  show V m c main_v2 _ = _
  refine congrArg _ ?_
  funext x
  apply Fin.ext
  match x with
  | ⟨0, _⟩ => show win0_2.index t (0 : Fin 2) * 1 + 1 * 0 = 0; rw [h0]
  | ⟨1, _⟩ => show win0_2.index t (1 : Fin 2) * 4096 + 1 * d.val = d.val; rw [h1]; omega

/-- The block of the upstream gradient at point `t`. -/
theorem iblk3 (c : Dev nD) (t : Fin cfg0.N) (q : Fin 512) (r : Fin 1024) : iblk m c 3 t (ix2 q r) = DY m c (row t q) (col t r) := by
  obtain ⟨_, _, _, _, h0, h1, _⟩ := idx_all t
  unfold iblk DY
  rw [View.read_apply]
  show V m c main_v1 _ = _
  refine congrArg _ ?_
  funext x
  apply Fin.ext
  match x with
  | ⟨0, _⟩ => show win0_3.index t (0 : Fin 2) * 512 + 1 * q.val = 512 * (t.val / 16) + q.val; rw [h0]; omega
  | ⟨1, _⟩ => show win0_3.index t (1 : Fin 2) * 1024 + 1 * r.val = 1024 * (t.val % 16) + r.val; rw [h1]; omega

/-- The block of the weight codes at point `t`: all rows, its columns. -/
theorem iblk4 (c : Dev nD) (t : Fin cfg0.N) (d : Fin 4096) (r : Fin 1024) : iblk m c 4 t (ix2 d r) = W m c d (col t r) := by
  obtain ⟨_, _, _, _, _, _, h0, h1, _⟩ := idx_all t
  unfold iblk W
  rw [View.read_apply]
  show V m c main_arg2 _ = _
  rw [V_main_arg2]
  refine congrArg _ ?_
  funext x
  apply Fin.ext
  match x with
  | ⟨0, _⟩ => show win0_4.index t (0 : Fin 2) * 4096 + 1 * d.val = d.val; rw [h0]; omega
  | ⟨1, _⟩ => show win0_4.index t (1 : Fin 2) * 1024 + 1 * r.val = 1024 * (t.val % 16) + r.val; rw [h1]; omega

/-- The codes of a block of the upstream gradient, at an entry. -/
theorem pay1_apply (v : Vec Ideal S512x1024 .bf16) (s : Elt Ideal .f32) (q : Fin 512) (r : Fin 1024) :
    k0_pay1 (F := Ideal) v s (ix2 q r) = dyCode (v (ix2 q r)) s := by
  unfold dyCode
  pointwise [k0_pay1]

/-- The running product starts at zero. -/
theorem pay2_apply (q : Fin 512) (d : Fin 4096) : k0_pay2 (F := Ideal) (ix2 q d) = (0 : EReal) := by
  pointwise [k0_pay2]

/-- The weight gradient starts at zero. -/
theorem pay4_apply (d : Fin 4096) : k0_pay4 (F := Ideal) (ix2 (0 : Fin 1) d) = (0 : EReal) := by
  pointwise [k0_pay4]

/-- A point adds its block of the contraction. -/
theorem pay3_apply (v : Vec Ideal S512x1024 .bf16) (s : Elt Ideal .f32) (a : Vec Ideal S512x4096 .f32) (w : Vec Ideal S4096x1024 .fp8e4m3) (q : Fin 512) (d : Fin 4096) :
    k0_pay3 (F := Ideal) v s a w (ix2 q d) = a (ix2 q d) + ∑ r : Fin 1024, dyCode (v (ix2 q r)) s * w (ix2 d r) := by
  unfold dyCode
  pointwise [k0_pay3, k0_pay1]

/-- One term of the product of the gradient's codes and the weight codes. -/
def term (c : Dev nD) (q : Fin 2048) (d : Fin 4096) (o : Fin 16384) : EReal :=
  dyCode (DY m c q o) (scal m c 1) * W m c d o

/-- The product of a row: the sum of all its terms. -/
def prod (c : Dev nD) (q : Fin 2048) (d : Fin 4096) : EReal := ∑ o, term m c q d o

/-- A point's part of the product. -/
theorem part_eq (c : Dev nD) (t : Fin cfg0.N) (q : Fin 512) (d : Fin 4096) (a : Vec Ideal S512x4096 .f32) :
    k0_pay3 (F := Ideal) (iblk m c 3 t) (iblk m c 0 t (ix1 1)) a (iblk m c 4 t) (ix2 q d)
      = a (ix2 q d) + ∑ r : Fin 1024, ext (term m c (row t q) d) (1024 * (t.val % 16) + r.val) := by
  refine (pay3_apply _ _ _ _ q d).trans (congrArg (a (ix2 q d) + ·) (Finset.sum_congr rfl fun r _ => ?_))
  rw [ext_lt _ (col t r).isLt]
  unfold term
  exact congrArg₂ (fun u v : EReal => u * v) (congrArg₂ dyCode (iblk3 m c t q r) (iblk0 m c t 1)) (iblk4 m c t d r)

/-- What the running product holds after a point that starts a block of rows. -/
theorem acc_first (c : Dev nD) (t : Fin cfg0.N) (h : t.val % 16 = 0) :
    (outsAt0 m c t.val t.isLt).2.2.2.2 = k0_pay3 (iblk m c 3 t) (iblk m c 0 t (ix1 1)) (k0_pay2 (F := Ideal)) (iblk m c 4 t) := by
  by_cases h1 : t.val % 64 = 0
  · rw [outsAt0_A m c t h h1 (by omega)]
    dsimp only
    exact acc_A ..
  · rw [outsAt0_D m c t h h1 (by omega)]
    dsimp only
    exact acc_D ..

/-- What the running product holds after any other point. -/
theorem acc_next (c : Dev nD) (t : Fin cfg0.N) (h : ¬t.val % 16 = 0) (hp : t.val - 1 < cfg0.N) :
    (outsAt0 m c t.val t.isLt).2.2.2.2 = k0_pay3 (iblk m c 3 t) (iblk m c 0 t (ix1 1)) (outsAt0 m c (t.val - 1) hp).2.2.2.2 (iblk m c 4 t) := by
  by_cases h2 : t.val % 16 = 15
  · rw [outsAt0_C m c t h (by omega) h2]
    dsimp only
    exact acc_C ..
  · rw [outsAt0_B m c t h (by omega) h2]
    dsimp only
    exact acc_B ..

/-- After point `n` the running product holds the blocks of the contraction up to the point's. -/
theorem acc_eq (c : Dev nD) : ∀ (n : ℕ) (hn : n < cfg0.N) (q : Fin 512) (d : Fin 4096),
    (outsAt0 m c n hn).2.2.2.2 (ix2 q d)
      = ∑ k ∈ Finset.range (n % 16 + 1), ∑ r : Fin 1024, ext (term m c (row ⟨n, hn⟩ q) d) (1024 * k + r.val) := by
  intro n
  induction n with
  | zero =>
    intro hn q d
    rw [acc_first m c ⟨0, hn⟩ rfl, part_eq, pay2_apply, zero_add]
    exact (Finset.sum_range_one (fun k => ∑ r : Fin 1024, ext (term m c (row ⟨0, hn⟩ q) d) (1024 * k + r.val))).symm
  | succ n ih =>
    intro hn q d
    by_cases h : (n + 1) % 16 = 0
    · rw [acc_first m c ⟨n + 1, hn⟩ h, part_eq, pay2_apply, zero_add]
      dsimp only
      rw [h]
      exact (Finset.sum_range_one (fun k => ∑ r : Fin 1024, ext (term m c (row ⟨n + 1, hn⟩ q) d) (1024 * k + r.val))).symm
    · have hn' : n < cfg0.N := Nat.lt_of_succ_lt hn
      rw [acc_next m c ⟨n + 1, hn⟩ h hn', part_eq]
      have er : row ⟨n, hn'⟩ q = row ⟨n + 1, hn⟩ q := Fin.ext (by show 512 * (n / 16) + q.val = 512 * ((n + 1) / 16) + q.val; omega)
      have em : (n + 1) % 16 = n % 16 + 1 := by omega
      have e := ih hn' q d
      rw [er] at e
      rw [Finset.sum_range_succ]
      refine congrArg₂ (fun u v : EReal => u + v) ?_ rfl
      refine e.trans ?_
      rw [em]

/-- At the last block of the contraction the product is finished. -/
theorem last_eq (c : Dev nD) (t : Fin cfg0.N) (h : t.val % 16 = 15) (hp : t.val - 1 < cfg0.N) (q : Fin 512) (d : Fin 4096) :
    last (iblk m c 0 t) (iblk m c 3 t) (iblk m c 4 t) (outsAt0 m c (t.val - 1) hp).2.2.2.2 (ix2 q d) = prod m c (row t q) d := by
  have e := congrFun (acc_next m c t (by omega) hp) (ix2 q d)
  refine e.symm.trans ((acc_eq m c t.val t.isLt q d).trans ?_)
  rw [h]
  exact sum_ext _ 1024 16 rfl

/-- The gradients a last block leaves. -/
theorem dx_last (c : Dev nD) (t : Fin cfg0.N) (h : t.val % 16 = 15) (q : Fin 512) (d : Fin 4096) :
    (outsAt0 m c t.val t.isLt).1 (ix2 q d) = dx (X m c (row t q)) (prod m c (row t q)) (Gm m c) (scal m c 2) d := by
  rw [outsAt0_C m c t (by omega) (by omega) h]
  dsimp only
  refine (out_C_5 _ _ _ _ _ _ _ _ _ _ _ _ _ _ _ _ _ _ _ _ _ _ _ _ _ _ _ _ _ _ _ _ q d).trans ?_
  exact congrFun (congr (congr (congr (congrArg dx (funext fun j => iblk1 m c t q j)) (funext fun j => last_eq m c t h _ q j)) (funext fun j => iblk2 m c t j)) (iblk0 m c t 2)) d

/-- The forward codes a last block leaves. -/
theorem xn_last (c : Dev nD) (t : Fin cfg0.N) (h : t.val % 16 = 15) (q : Fin 512) (d : Fin 4096) :
    (outsAt0 m c t.val t.isLt).2.2.1 (ix2 q d) = xnCode (X m c (row t q)) (Gm m c) (scal m c 0) d := by
  rw [outsAt0_C m c t (by omega) (by omega) h]
  dsimp only
  refine (out_C_7 _ _ _ _ _ _ _ _ _ _ _ _ _ _ _ _ _ _ _ _ _ _ _ _ _ _ _ _ _ _ _ _ q d).trans ?_
  exact congrFun (congr (congr (congrArg xnCode (funext fun j => iblk1 m c t q j)) (funext fun j => iblk2 m c t j)) (iblk0 m c t 0)) d

/-- The gradient's codes any point leaves. -/
theorem dy_any (c : Dev nD) (t : Fin cfg0.N) (q : Fin 512) (r : Fin 1024) :
    (outsAt0 m c t.val t.isLt).2.2.2.1 (ix2 q r) = dyCode (DY m c (row t q) (col t r)) (scal m c 1) := by
  have e : (outsAt0 m c t.val t.isLt).2.2.2.1 = k0_pay1 (F := Ideal) (iblk m c 3 t) (iblk m c 0 t (ix1 1)) := by
    have hN := lt_of_lt_of_eq t.isLt (show cfg0.N = 64 from N_0)
    by_cases h0 : t.val % 16 = 0
    · by_cases h1 : t.val % 64 = 0
      · rw [outsAt0_A m c t h0 h1 (by omega)]
        dsimp only
        exact dy_A ..
      · rw [outsAt0_D m c t h0 h1 (by omega)]
        dsimp only
        exact dy_D ..
    · by_cases h2 : t.val % 16 = 15
      · rw [outsAt0_C m c t h0 (by omega) h2]
        dsimp only
        exact dy_C ..
      · rw [outsAt0_B m c t h0 (by omega) h2]
        dsimp only
        exact dy_B ..
  rw [e]
  refine (pay1_apply _ _ q r).trans ?_
  exact congrArg₂ dyCode (iblk3 m c t q r) (iblk0 m c t 1)

/-- A row's part of the weight gradient. -/
def dgPart (c : Dev nD) (d : Fin 4096) (q : Fin 2048) : EReal := dgTerm (X m c q) (prod m c q) (scal m c 2) d

/-- A last block adds its rows' parts to the weight gradient. -/
theorem dg_last (c : Dev nD) (t : Fin cfg0.N) (h : t.val % 16 = 15) (hp : t.val - 1 < cfg0.N) (d : Fin 4096) :
    (outsAt0 m c t.val t.isLt).2.1 (ix2 (0 : Fin 1) d)
      = (outsAt0 m c (t.val - 1) hp).2.1 (ix2 (0 : Fin 1) d) + ∑ q : Fin 512, ext (dgPart m c d) (512 * (t.val / 16) + q.val) := by
  rw [outsAt0_C m c t (by omega) (by omega) h]
  dsimp only
  refine (out_C_6 _ _ _ _ _ _ _ _ _ _ _ _ _ _ _ _ _ _ _ _ _ _ _ _ _ _ _ _ _ _ _ _ d).trans ?_
  refine congrArg (_ + ·) (Finset.sum_congr rfl fun q _ => ?_)
  rw [ext_lt _ (row t q).isLt]
  unfold dgPart
  exact congrFun (congr (congr (congrArg dgTerm (funext fun j => iblk1 m c t q j)) (funext fun j => last_eq m c t h _ q j)) (iblk0 m c t 2)) d

/-- Any other point but the first leaves the weight gradient as it was. -/
theorem dg_other (c : Dev nD) (t : Fin cfg0.N) (h1 : ¬t.val % 64 = 0) (h : ¬t.val % 16 = 15) (hp : t.val - 1 < cfg0.N) :
    (outsAt0 m c t.val t.isLt).2.1 = (outsAt0 m c (t.val - 1) hp).2.1 := by
  by_cases h0 : t.val % 16 = 0
  · rw [outsAt0_D m c t h0 h1 h]
    rfl
  · rw [outsAt0_B m c t h0 h1 h]
    rfl

/-- After point `n` the weight gradient holds the parts of the rows of every finished block of rows. -/
theorem dg_eq (c : Dev nD) (d : Fin 4096) : ∀ (n : ℕ) (hn : n < cfg0.N),
    (outsAt0 m c n hn).2.1 (ix2 (0 : Fin 1) d)
      = ∑ b ∈ Finset.range ((n + 1) / 16), ∑ q : Fin 512, ext (dgPart m c d) (512 * b + q.val) := by
  intro n
  induction n with
  | zero =>
    intro hn
    rw [show (0 + 1) / 16 = 0 from rfl, Finset.sum_range_zero]
    have e := congrArg (fun u => u.2.1) (outsAt0_A m c ⟨0, hn⟩ rfl rfl (show ¬0 % 16 = 15 by decide))
    refine (congrFun e (ix2 (0 : Fin 1) d)).trans ?_
    dsimp only
    rw [dg_A]
    exact pay4_apply d
  | succ n ih =>
    intro hn
    have hN := lt_of_lt_of_eq hn (show cfg0.N = 64 from N_0)
    have hn' : n < cfg0.N := Nat.lt_of_succ_lt hn
    by_cases h : (n + 1) % 16 = 15
    · rw [dg_last m c ⟨n + 1, hn⟩ h hn' d]
      rw [show (n + 1 + 1) / 16 = (n + 1) / 16 + 1 by omega, Finset.sum_range_succ]
      exact congrArg₂ (fun u v : EReal => u + v) (ih hn') rfl
    · rw [dg_other m c ⟨n + 1, hn⟩ (by dsimp only; omega) h hn']
      rw [show (n + 1 + 1) / 16 = (n + 1) / 16 by omega]
      exact ih hn'

end Cert.DgradIdeal.Hand

end
-- ==== Proof.DgradFinal.lean ====
/-
  The four result arrays of the input-gradient kernel, entry by entry, in the arguments as launched.
-/
module

public import proofs.«01_k».proof.Proof.DgradIdealFrame.Value
public import proofs.«01_k».proof.Proof.DgradFold
public import Idealize.ShloMosaic.Lib.Pointwise

@[expose] public section

set_option maxRecDepth 16384

noncomputable section

namespace Cert.DgradIdeal.Hand

open Cert.DgradIdeal Cert.DgradIdeal.Gen Idealize.ShloMosaic Idealize.ShloMosaic.TcCoe Idealize.SL.Sem
open Idealize.ShloMosaic.Pipeline (Dat)
open Idealize.ShloMosaic.Pointwise
open Cert.DgradMath
open scoped BigOperators

variable (m : (ℓ : Loc nD τ sig) → Buf (Elt Ideal) ℓ)

open Cert.DgradIdeal.Value

/-- An entry of `x` as launched, read as rows. -/
theorem X_eq (c : Dev nD) : X m c = fun q d => shapeCast (s := S2x1024x4096) S2048x4096 (m ((c : Thread nD τ).loc main_arg0)) shapeCasts_S2x1024x4096_S2048x4096 (ix2 q d) := rfl
/-- The weights as launched. -/
theorem Gm_eq (c : Dev nD) : Gm m c = fun d => shapeCast (s := S4096) S1x4096 (m ((c : Thread nD τ).loc main_arg1)) shapeCasts_S4096_S1x4096 (ix2 (0 : Fin 1) d) := rfl
/-- The upstream gradient as launched, read as rows. -/
theorem DY_eq (c : Dev nD) : DY m c = fun q o => shapeCast (s := S2x1024x16384) S2048x16384 (m ((c : Thread nD τ).loc main_arg4)) shapeCasts_S2x1024x16384_S2048x16384 (ix2 q o) := rfl

/-- Three joined entries. -/
def joined (a b d : FVec Ideal S1 .f32) : FVec Ideal S3 .f32 := concatenate S3 0 [⟨S1, a⟩, ⟨S1, b⟩, ⟨S1, d⟩] concatenates_S1_S1_S1_S3_d0

/-- The three scalars as the host joins them. -/
theorem V_scal (c : Dev nD) : V m c main_v4 = joined (m ((c : Thread nD τ).loc main_arg5)) (m ((c : Thread nD τ).loc main_arg6))
    (mulf (F := Ideal) (s := S1) (φ := .f32) (m ((c : Thread nD τ).loc main_arg7)) (m ((c : Thread nD τ).loc main_arg3))) := rfl

/-- Three joined entries, one by one. -/
theorem join_apply (a b d : FVec Ideal S1 .f32) :
    joined a b d (ix1 (0 : Fin 3)) = a (ix1 (0 : Fin 1)) ∧ joined a b d (ix1 (1 : Fin 3)) = b (ix1 (0 : Fin 1))
    ∧ joined a b d (ix1 (2 : Fin 3)) = d (ix1 (0 : Fin 1)) := by
  unfold joined
  refine ⟨?_, ?_, ?_⟩
  · pointwise
  · pointwise
  · pointwise

/-- The first scalar is the inverse scale of the forward codes. -/
theorem scal_0 (c : Dev nD) : scal m c 0 = (show EReal from m ((c : Thread nD τ).loc main_arg5) (ix1 (0 : Fin 1))) :=
  (congrFun (V_scal m c) _).trans (join_apply _ _ _).1
/-- The second is the inverse scale of the gradient's codes. -/
theorem scal_1 (c : Dev nD) : scal m c 1 = (show EReal from m ((c : Thread nD τ).loc main_arg6) (ix1 (0 : Fin 1))) :=
  (congrFun (V_scal m c) _).trans (join_apply _ _ _).2.1
/-- The third is the product of the gradient's scale and the weights'. -/
theorem scal_2 (c : Dev nD) : scal m c 2 = (show EReal from m ((c : Thread nD τ).loc main_arg7) (ix1 (0 : Fin 1))) * (show EReal from m ((c : Thread nD τ).loc main_arg3) (ix1 (0 : Fin 1))) :=
  (congrFun (V_scal m c) _).trans (join_apply _ _ _).2.2

/-- The input gradient, at an entry. -/
theorem G5_apply (c : Dev nD) (q : Fin 2048) (d : Fin 4096) :
    G5 m c (ix2 q d) = dx (X m c q) (prod m c q) (Gm m c) (scal m c 2) d := by
  have hq := q.isLt
  have hd := d.isLt
  have e : pt5Of (ix2 q d) = 16 * (1 * (q.val / 512 - 0) + 1 * (d.val / 4096 - 0)) + 15 := rfl
  have hp : pt5Of (ix2 q d) < cfg0.N := lt_of_lt_of_eq (by rw [e]; omega) (show cfg0.N = 64 from N_0).symm
  have h15 : pt5Of (ix2 q d) % 16 = 15 := by rw [e]; omega
  unfold G5
  rw [dif_pos hp, ← outsAt0_sweep m c (pt5Of (ix2 q d)) hp]
  have hl : loc5Of (ix2 q d) = ix2 (⟨q.val % 512, Nat.mod_lt _ (by decide)⟩ : Fin 512) d := by
    funext a
    apply Fin.ext
    match a with
    | ⟨0, _⟩ => rfl
    | ⟨1, _⟩ => exact Nat.mod_eq_of_lt hd
  have hr : row ⟨pt5Of (ix2 q d), hp⟩ ⟨q.val % 512, Nat.mod_lt _ (by decide)⟩ = q := Fin.ext (by
    show 512 * (pt5Of (ix2 q d) / 16) + q.val % 512 = q.val
    rw [e]; omega)
  have h := dx_last m c ⟨pt5Of (ix2 q d), hp⟩ h15 ⟨q.val % 512, Nat.mod_lt _ (by decide)⟩ d
  rw [hr] at h
  exact (congrArg (outsAt0 m c (pt5Of (ix2 q d)) hp).1 hl).trans h

/-- The forward codes, at an entry. -/
theorem G7_apply (c : Dev nD) (q : Fin 2048) (d : Fin 4096) :
    G7 m c (ix2 q d) = xnCode (X m c q) (Gm m c) (scal m c 0) d := by
  have hq := q.isLt
  have hd := d.isLt
  have e : pt7Of (ix2 q d) = 16 * (1 * (q.val / 512 - 0) + 1 * (d.val / 4096 - 0)) + 15 := rfl
  have hp : pt7Of (ix2 q d) < cfg0.N := lt_of_lt_of_eq (by rw [e]; omega) (show cfg0.N = 64 from N_0).symm
  have h15 : pt7Of (ix2 q d) % 16 = 15 := by rw [e]; omega
  unfold G7
  rw [dif_pos hp, ← outsAt0_sweep m c (pt7Of (ix2 q d)) hp]
  have hl : loc7Of (ix2 q d) = ix2 (⟨q.val % 512, Nat.mod_lt _ (by decide)⟩ : Fin 512) d := by
    funext a
    apply Fin.ext
    match a with
    | ⟨0, _⟩ => rfl
    | ⟨1, _⟩ => exact Nat.mod_eq_of_lt hd
  have hr : row ⟨pt7Of (ix2 q d), hp⟩ ⟨q.val % 512, Nat.mod_lt _ (by decide)⟩ = q := Fin.ext (by
    show 512 * (pt7Of (ix2 q d) / 16) + q.val % 512 = q.val
    rw [e]; omega)
  have h := xn_last m c ⟨pt7Of (ix2 q d), hp⟩ h15 ⟨q.val % 512, Nat.mod_lt _ (by decide)⟩ d
  rw [hr] at h
  exact (congrArg (outsAt0 m c (pt7Of (ix2 q d)) hp).2.2.1 hl).trans h

/-- The gradient's codes, at an entry. -/
theorem G8_apply (c : Dev nD) (q : Fin 2048) (o : Fin 16384) :
    G8 m c (ix2 q o) = dyCode (DY m c q o) (scal m c 1) := by
  have hq := q.isLt
  have ho := o.isLt
  have e : pt8Of (ix2 q o) = 16 * (q.val / 512 - 0) + 1 * (o.val / 1024 - 0) := rfl
  have hp : pt8Of (ix2 q o) < cfg0.N := lt_of_lt_of_eq (by rw [e]; omega) (show cfg0.N = 64 from N_0).symm
  unfold G8
  rw [dif_pos hp, ← outsAt0_sweep m c (pt8Of (ix2 q o)) hp]
  have hl : loc8Of (ix2 q o) = ix2 (⟨q.val % 512, Nat.mod_lt _ (by decide)⟩ : Fin 512) (⟨o.val % 1024, Nat.mod_lt _ (by decide)⟩ : Fin 1024) := by
    funext a
    apply Fin.ext
    match a with
    | ⟨0, _⟩ => rfl
    | ⟨1, _⟩ => rfl
  have hr : row ⟨pt8Of (ix2 q o), hp⟩ ⟨q.val % 512, Nat.mod_lt _ (by decide)⟩ = q := Fin.ext (by
    show 512 * (pt8Of (ix2 q o) / 16) + q.val % 512 = q.val
    rw [e]; omega)
  have hc : col ⟨pt8Of (ix2 q o), hp⟩ ⟨o.val % 1024, Nat.mod_lt _ (by decide)⟩ = o := Fin.ext (by
    show 1024 * (pt8Of (ix2 q o) % 16) + o.val % 1024 = o.val
    rw [e]; omega)
  have h := dy_any m c ⟨pt8Of (ix2 q o), hp⟩ ⟨q.val % 512, Nat.mod_lt _ (by decide)⟩ ⟨o.val % 1024, Nat.mod_lt _ (by decide)⟩
  rw [hr, hc] at h
  exact (congrArg (outsAt0 m c (pt8Of (ix2 q o)) hp).2.2.2.1 hl).trans h

/-- The weight gradient, at an entry: every row's part. -/
theorem G6_apply (c : Dev nD) (d : Fin 4096) :
    G6 m c (ix2 (0 : Fin 1) d) = ∑ q, dgPart m c d q := by
  have hd := d.isLt
  have e : pt6Of (ix2 (0 : Fin 1) d) = 64 * (1 * (0 / 1 - 0) + 1 * (d.val / 4096 - 0)) + 63 := rfl
  have e' : pt6Of (ix2 (0 : Fin 1) d) = 63 := by rw [e]; omega
  have hp : pt6Of (ix2 (0 : Fin 1) d) < cfg0.N := lt_of_lt_of_eq (by rw [e]; omega) (show cfg0.N = 64 from N_0).symm
  unfold G6
  rw [dif_pos hp, ← outsAt0_sweep m c (pt6Of (ix2 (0 : Fin 1) d)) hp]
  have hl : loc6Of (ix2 (0 : Fin 1) d) = ix2 (0 : Fin 1) d := by
    funext a
    apply Fin.ext
    match a with
    | ⟨0, _⟩ => rfl
    | ⟨1, _⟩ => exact Nat.mod_eq_of_lt hd
  refine (congrArg (outsAt0 m c (pt6Of (ix2 (0 : Fin 1) d)) hp).2.1 hl).trans ?_
  refine (dg_eq m c d _ hp).trans ?_
  rw [e']
  exact sum_ext _ 512 4 rfl

end Cert.DgradIdeal.Hand

end
-- ==== Proof.DgradReferenceValue.lean ====
/-
  What the input-gradient reference leaves in its four result arrays, entry by entry.
-/
module

public import proofs.«01_k».proof.Proof.DgradIdealFrame.Value
public import proofs.«01_k».proof.Proof.Gen.DgradReferenceIdeal.Value
public import proofs.«01_k».proof.Proof.DgradMath
public import Idealize.ShloMosaic.Lib.Pointwise
public import Idealize.ShloMosaic.Lib.Pointwise

@[expose] public section

set_option maxRecDepth 16384

noncomputable section

namespace Cert.DgradReferenceIdeal.Hand

open Cert.DgradReferenceIdeal Cert.DgradReferenceIdeal.Gen Idealize.ShloMosaic Idealize.ShloMosaic.TcCoe Idealize.SL.Sem
open Idealize.ShloMosaic.Pipeline (Dat)
open Idealize.ShloMosaic.Pointwise
open Cert.DgradMath
open scoped BigOperators

/-- The one grid point. -/
def t₀ : Fin cfg0.N := ⟨0, by decide⟩

/-- A rectangle at the origin has zero offsets. -/
theorem hz : (![0, 0] : Fin 2 → ℕ) = fun _ => 0 := by
  funext j
  match j with
  | ⟨0, _⟩ => rfl
  | ⟨1, _⟩ => rfl

/-- An array of one entry has one index. -/
theorem s1_eq (x y : S1.Idx) : x = y :=
  funext fun a => match a with
    | ⟨0, _⟩ => Subsingleton.elim (α := Fin 1) _ _

section

variable (c : Dev nD) (arg0 : Memref sig .tc .vmem S2048x4096 .bf16) (harg0 : arg0.IsWhole) (arg1 : Memref sig .tc .vmem S1x4096 .f32) (harg1 : arg1.IsWhole) (arg2 : Memref sig .tc .vmem S4096x16384 .fp8e4m3) (harg2 : arg2.IsWhole) (arg3 : Memref sig .tc .smem S1 .f32) (harg3 : arg3.IsWhole) (arg4 : Memref sig .tc .vmem S2048x16384 .bf16) (harg4 : arg4.IsWhole) (arg5 : Memref sig .tc .smem S1 .f32) (harg5 : arg5.IsWhole) (arg6 : Memref sig .tc .smem S1 .f32) (harg6 : arg6.IsWhole) (arg7 : Memref sig .tc .smem S1 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S2048x4096 .fp8e4m3) (harg10 : arg10.IsWhole) (arg11 : Memref sig .tc .vmem S2048x16384 .fp8e5m2) (harg11 : arg11.IsWhole)
variable (x0 : Vec Ideal S2048x4096 .bf16) (x1 : Vec Ideal S1x4096 .f32) (x2 : Vec Ideal S4096x16384 .fp8e4m3) (x3 : Vec Ideal S1 .f32) (x4 : Vec Ideal S2048x16384 .bf16) (x5 : Vec Ideal S1 .f32) (x6 : Vec Ideal S1 .f32) (x7 : Vec Ideal S1 .f32)

/-- The one store of the input gradient covers its array. -/
theorem out_8 : out0_A_8 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 = k0_pay2 (k0_pay4 x1) (k0_pay6 x0) (k0_pay7 x0) (k0_pay10 x4 (x6 (ix1 0)) x2) (x7 (ix1 0)) (x3 (ix1 0)) := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_cons_unit_zero hz]
  simp only [View.readAt_eq_ld, harg0.read_unread, harg1.read_unread, harg2.read_unread, harg3.read_unread, harg4.read_unread, harg5.read_unread, harg6.read_unread, harg7.read_unread, View.ld_unit_zero (S := S2048x4096) hz, View.ld_unit_zero (S := S1x4096) hz, View.ld_unit_zero (S := S4096x16384) hz, View.ld_unit_zero (S := S2048x16384) hz]
  exact congr (congrArg₂ (fun a b => k0_pay2 (k0_pay4 x1) (k0_pay6 x0) (k0_pay7 x0) (k0_pay10 x4 a x2) b) (congrArg x6 (s1_eq _ _)) (congrArg x7 (s1_eq _ _))) (congrArg x3 (s1_eq _ _))

/-- The one store of the weight gradient covers its array. -/
theorem out_9 : out0_A_9 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 = k0_pay3 (k0_pay7 x0) (k0_pay10 x4 (x6 (ix1 0)) x2) (x7 (ix1 0)) (x3 (ix1 0)) := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_cons_unit_zero hz]
  simp only [View.readAt_eq_ld, harg0.read_unread, harg1.read_unread, harg2.read_unread, harg3.read_unread, harg4.read_unread, harg5.read_unread, harg6.read_unread, harg7.read_unread, View.ld_unit_zero (S := S2048x4096) hz, View.ld_unit_zero (S := S1x4096) hz, View.ld_unit_zero (S := S4096x16384) hz, View.ld_unit_zero (S := S2048x16384) hz]
  exact congr (congrArg₂ (fun a b => k0_pay3 (k0_pay7 x0) (k0_pay10 x4 a x2) b) (congrArg x6 (s1_eq _ _)) (congrArg x7 (s1_eq _ _))) (congrArg x3 (s1_eq _ _))

/-- The one store of the forward codes covers its array. -/
theorem out_10 : out0_A_10 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 = k0_pay8 x1 x0 (x5 (ix1 0)) := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_cons_unit_zero hz]
  simp only [View.readAt_eq_ld, harg0.read_unread, harg1.read_unread, harg2.read_unread, harg3.read_unread, harg4.read_unread, harg5.read_unread, harg6.read_unread, harg7.read_unread, View.ld_unit_zero (S := S2048x4096) hz, View.ld_unit_zero (S := S1x4096) hz, View.ld_unit_zero (S := S4096x16384) hz, View.ld_unit_zero (S := S2048x16384) hz]
  exact congrArg (k0_pay8 x1 x0) (congrArg x5 (s1_eq _ _))

/-- The one store of the gradient's codes covers its array. -/
theorem out_11 : out0_A_11 (F := Ideal) c arg0 harg0 arg1 harg1 arg2 harg2 arg3 harg3 arg4 harg4 arg5 harg5 arg6 harg6 arg7 harg7 arg8 harg8 arg9 harg9 arg10 harg10 arg11 harg11 x0 x1 x2 x3 x4 x5 x6 x7 = k0_pay9 x4 (x6 (ix1 0)) := by
  unfold out0_A_11
  rw [View.read_writes_eq_canon _ _ _ (cover0_A_11 c arg0 harg0 arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_cons_unit_zero hz]
  simp only [View.readAt_eq_ld, harg0.read_unread, harg1.read_unread, harg2.read_unread, harg3.read_unread, harg4.read_unread, harg5.read_unread, harg6.read_unread, harg7.read_unread, View.ld_unit_zero (S := S2048x4096) hz, View.ld_unit_zero (S := S1x4096) hz, View.ld_unit_zero (S := S4096x16384) hz, View.ld_unit_zero (S := S2048x16384) hz]
  exact congrArg (k0_pay9 x4) (congrArg x6 (s1_eq _ _))

end

/-- The product of the codes of a row with the weights. -/
def prodOf (dy : Fin 16384 → EReal) (w : Fin 4096 → Fin 16384 → EReal) (s : EReal) (d : Fin 4096) : EReal := ∑ o, dyCode (dy o) s * w d o

/-- The product, at an entry. -/
theorem pay10_apply (v : Vec Ideal S2048x16384 .bf16) (s : Elt Ideal .f32) (w : Vec Ideal S4096x16384 .fp8e4m3) (q : Fin 2048) (d : Fin 4096) :
    k0_pay10 (F := Ideal) v s w (ix2 q d) = prodOf (fun o => v (ix2 q o)) (fun d o => w (ix2 d o)) s d := by
  unfold prodOf dyCode
  pointwise [k0_pay10, k0_pay9]

/-- The input gradient, at an entry. -/
theorem pay2_apply (g : Vec Ideal S1x4096 .f32) (x : Vec Ideal S2048x4096 .bf16) (a : FVec Ideal S2048x4096 .f32) (s t : Elt Ideal .f32) (q : Fin 2048) (d : Fin 4096) :
    k0_pay2 (F := Ideal) (k0_pay4 g) (k0_pay6 x) (k0_pay7 x) a s t (ix2 q d)
      = dx (fun j => x (ix2 q j)) (fun j => a (ix2 q j)) (fun j => g (ix2 0 j)) ((show EReal from s) * (show EReal from t)) d := by
  unfold dx xhat rInv
  pointwise [k0_pay2, k0_pay1, k0_pay4, k0_pay6, k0_pay7, k0_pay5]

/-- The weight gradient, at an entry. -/
theorem pay3_apply (x : Vec Ideal S2048x4096 .bf16) (a : FVec Ideal S2048x4096 .f32) (s t : Elt Ideal .f32) (d : Fin 4096) :
    k0_pay3 (F := Ideal) (k0_pay7 x) a s t (ix2 (0 : Fin 1) d)
      = ∑ q : Fin 2048, dgTerm (fun j => x (ix2 q j)) (fun j => a (ix2 q j)) ((show EReal from s) * (show EReal from t)) d := by
  unfold dgTerm xhat rInv
  pointwise [k0_pay3, k0_pay1, k0_pay6, k0_pay7, k0_pay5]

/-- The forward codes, at an entry. -/
theorem pay8_apply (g : Vec Ideal S1x4096 .f32) (x : Vec Ideal S2048x4096 .bf16) (s : Elt Ideal .f32) (q : Fin 2048) (d : Fin 4096) :
    k0_pay8 (F := Ideal) g x s (ix2 q d) = xnCode (fun j => x (ix2 q j)) (fun j => g (ix2 0 j)) s d := by
  unfold xnCode xhat rInv
  pointwise [k0_pay8, k0_pay4, k0_pay6, k0_pay7, k0_pay5]

/-- The gradient's codes, at an entry. -/
theorem pay9_apply (v : Vec Ideal S2048x16384 .bf16) (s : Elt Ideal .f32) (q : Fin 2048) (o : Fin 16384) :
    k0_pay9 (F := Ideal) v s (ix2 q o) = dyCode (v (ix2 q o)) s := by
  unfold dyCode
  pointwise [k0_pay9]

variable (m : (ℓ : Loc nD τ sig) → Buf (Elt Ideal) ℓ)

/-- Window 0 holds its whole array. -/
theorem iblk0 (c : Dev nD) : iblk m c 0 t₀ = V m c main_v0 := by
  have hz0 : (fun a => (win0_0.index t₀) a * main_v0.ty.shape.size a) = fun _ => 0 :=
    funext fun a => by fin_cases a <;> decide
  exact Memref.read_access_unit_zero (Elt Ideal) main_v0 hz0 (fun a => by fin_cases a <;> decide) _

/-- Window 1 holds its whole array. -/
theorem iblk1 (c : Dev nD) : iblk m c 1 t₀ = V m c main_v2 := by
  have hz1 : (fun a => (win0_1.index t₀) a * main_v2.ty.shape.size a) = fun _ => 0 :=
    funext fun a => by fin_cases a <;> decide
  exact Memref.read_access_unit_zero (Elt Ideal) main_v2 hz1 (fun a => by fin_cases a <;> decide) _

/-- Window 2 holds its whole array. -/
theorem iblk2 (c : Dev nD) : iblk m c 2 t₀ = V m c main_arg2 := by
  have hz2 : (fun a => (win0_2.index t₀) a * main_arg2.ty.shape.size a) = fun _ => 0 :=
    funext fun a => by fin_cases a <;> decide
  exact Memref.read_access_unit_zero (Elt Ideal) main_arg2 hz2 (fun a => by fin_cases a <;> decide) _

/-- Window 3 holds its whole array. -/
theorem iblk3 (c : Dev nD) : iblk m c 3 t₀ = V m c main_arg3 := by
  have hz3 : (fun a => (win0_3.index t₀) a * main_arg3.ty.shape.size a) = fun _ => 0 :=
    funext fun a => by fin_cases a <;> decide
  exact Memref.read_access_unit_zero (Elt Ideal) main_arg3 hz3 (fun a => by fin_cases a <;> decide) _

/-- Window 4 holds its whole array. -/
theorem iblk4 (c : Dev nD) : iblk m c 4 t₀ = V m c main_v1 := by
  have hz4 : (fun a => (win0_4.index t₀) a * main_v1.ty.shape.size a) = fun _ => 0 :=
    funext fun a => by fin_cases a <;> decide
  exact Memref.read_access_unit_zero (Elt Ideal) main_v1 hz4 (fun a => by fin_cases a <;> decide) _

/-- Window 5 holds its whole array. -/
theorem iblk5 (c : Dev nD) : iblk m c 5 t₀ = V m c main_arg5 := by
  have hz5 : (fun a => (win0_5.index t₀) a * main_arg5.ty.shape.size a) = fun _ => 0 :=
    funext fun a => by fin_cases a <;> decide
  exact Memref.read_access_unit_zero (Elt Ideal) main_arg5 hz5 (fun a => by fin_cases a <;> decide) _

/-- Window 6 holds its whole array. -/
theorem iblk6 (c : Dev nD) : iblk m c 6 t₀ = V m c main_arg6 := by
  have hz6 : (fun a => (win0_6.index t₀) a * main_arg6.ty.shape.size a) = fun _ => 0 :=
    funext fun a => by fin_cases a <;> decide
  exact Memref.read_access_unit_zero (Elt Ideal) main_arg6 hz6 (fun a => by fin_cases a <;> decide) _

/-- Window 7 holds its whole array. -/
theorem iblk7 (c : Dev nD) : iblk m c 7 t₀ = V m c main_arg7 := by
  have hz7 : (fun a => (win0_7.index t₀) a * main_arg7.ty.shape.size a) = fun _ => 0 :=
    funext fun a => by fin_cases a <;> decide
  exact Memref.read_access_unit_zero (Elt Ideal) main_arg7 hz7 (fun a => by fin_cases a <;> decide) _

/-- The result array of the input gradient. -/
theorem final_8 (c : Dev nD) : (dats (F := Ideal) m 0 c).arrAt 8 cfg0.N = k0_pay2 (k0_pay4 (V m c main_v2)) (k0_pay6 (V m c main_v0)) (k0_pay7 (V m c main_v0)) (k0_pay10 (V m c main_v1) ((V m c main_arg6) (ix1 0)) (V m c main_arg2)) ((V m c main_arg7) (ix1 0)) ((V m c main_arg3) (ix1 0)) := by
  have ho := Cert.DgradReferenceIdeal.Value.blocks8 (F := Ideal) m c t₀ (by decide)
  have hzo : (fun a => (win0_8.index t₀) a * main_v3_0.ty.shape.size a) = fun _ => 0 :=
    funext fun a => by fin_cases a <;> decide
  have hro := fun f => Memref.read_access_unit_zero (Elt Ideal) main_v3_0 hzo (fun a => by fin_cases a <;> decide) f
  rw [hro] at ho
  rw [ho, Cert.DgradReferenceIdeal.Value.flushed8_A, out_8]
  rw [iblk0, iblk1, iblk2, iblk3, iblk4, iblk6, iblk7]
  rfl

/-- The result array of the weight gradient. -/
theorem final_9 (c : Dev nD) : (dats (F := Ideal) m 0 c).arrAt 9 cfg0.N = k0_pay3 (k0_pay7 (V m c main_v0)) (k0_pay10 (V m c main_v1) ((V m c main_arg6) (ix1 0)) (V m c main_arg2)) ((V m c main_arg7) (ix1 0)) ((V m c main_arg3) (ix1 0)) := by
  have ho := Cert.DgradReferenceIdeal.Value.blocks9 (F := Ideal) m c t₀ (by decide)
  have hzo : (fun a => (win0_9.index t₀) a * main_v3_1.ty.shape.size a) = fun _ => 0 :=
    funext fun a => by fin_cases a <;> decide
  have hro := fun f => Memref.read_access_unit_zero (Elt Ideal) main_v3_1 hzo (fun a => by fin_cases a <;> decide) f
  rw [hro] at ho
  rw [ho, Cert.DgradReferenceIdeal.Value.flushed9_A, out_9]
  rw [iblk0, iblk2, iblk3, iblk4, iblk6, iblk7]
  rfl

/-- The result array of the forward codes. -/
theorem final_10 (c : Dev nD) : (dats (F := Ideal) m 0 c).arrAt 10 cfg0.N = k0_pay8 (V m c main_v2) (V m c main_v0) ((V m c main_arg5) (ix1 0)) := by
  have ho := Cert.DgradReferenceIdeal.Value.blocks10 (F := Ideal) m c t₀ (by decide)
  have hzo : (fun a => (win0_10.index t₀) a * main_v3_2.ty.shape.size a) = fun _ => 0 :=
    funext fun a => by fin_cases a <;> decide
  have hro := fun f => Memref.read_access_unit_zero (Elt Ideal) main_v3_2 hzo (fun a => by fin_cases a <;> decide) f
  rw [hro] at ho
  rw [ho, Cert.DgradReferenceIdeal.Value.flushed10_A, out_10]
  rw [iblk0, iblk1, iblk5]
  rfl

/-- The result array of the gradient's codes. -/
theorem final_11 (c : Dev nD) : (dats (F := Ideal) m 0 c).arrAt 11 cfg0.N = k0_pay9 (V m c main_v1) ((V m c main_arg6) (ix1 0)) := by
  have ho := Cert.DgradReferenceIdeal.Value.blocks11 (F := Ideal) m c t₀ (by decide)
  have hzo : (fun a => (win0_11.index t₀) a * main_v3_3.ty.shape.size a) = fun _ => 0 :=
    funext fun a => by fin_cases a <;> decide
  have hro := fun f => Memref.read_access_unit_zero (Elt Ideal) main_v3_3 hzo (fun a => by fin_cases a <;> decide) f
  rw [hro] at ho
  rw [ho, Cert.DgradReferenceIdeal.Value.flushed11_A, out_11]
  rw [iblk4, iblk6]
  rfl

end Cert.DgradReferenceIdeal.Hand

end
-- ==== Proof.DgradAlgebra.lean ====
/-
  The equation of the input gradient: on the same arguments the kernel and its reference end with the same four results.
-/
module

public import proofs.«01_k».proof.Defs
public import proofs.«01_k».proof.Proof.DgradFinal
public import proofs.«01_k».proof.Proof.DgradReferenceValue
public import proofs.«01_k».proof.Proof.Gen.DgradIdeal
public import proofs.«01_k».proof.Proof.Gen.DgradReferenceIdeal

@[expose] public section

set_option maxRecDepth 16384

noncomputable section

namespace Cert.Proof.DgradAlgebra

open Idealize.ShloMosaic Idealize.ShloMosaic.TcCoe Idealize.SL.Sem
open Idealize.ShloMosaic.Pointwise
open Cert.DgradMath
open Cert.DgradIdeal.Hand (X Gm DY W scal prod term dgPart)
open scoped BigOperators

/-- A shape cast of equal arrays. -/
theorem cast_congr {α : Type} {s t : Shape} {x y : s.Idx → α} (h : x = y) (hs : Shape.ShapeCasts s t) (j : t.Idx) :
    shapeCast t x hs j = shapeCast t y hs j := by rw [h]

section

variable (m : (ℓ : Loc Cert.DgradIdeal.nD Cert.DgradIdeal.τ Cert.DgradIdeal.sig) → Buf (Elt Ideal) ℓ)
  (m' : (ℓ : Loc Cert.DgradReferenceIdeal.nD Cert.DgradReferenceIdeal.τ Cert.DgradReferenceIdeal.sig) → Buf (Elt Ideal) ℓ)
  (c : Dev Cert.DgradIdeal.nD)

/-- The two programs are launched on the same arguments. -/
abbrev Agree : Prop :=
  m' ((c.tc : Thread Cert.DgradReferenceIdeal.nD Cert.DgradReferenceIdeal.τ).loc Cert.DgradReferenceIdeal.main_arg0) = m ((c.tc : Thread Cert.DgradIdeal.nD Cert.DgradIdeal.τ).loc Cert.DgradIdeal.main_arg0)
      ∧ m' ((c.tc : Thread Cert.DgradReferenceIdeal.nD Cert.DgradReferenceIdeal.τ).loc Cert.DgradReferenceIdeal.main_arg1) = m ((c.tc : Thread Cert.DgradIdeal.nD Cert.DgradIdeal.τ).loc Cert.DgradIdeal.main_arg1)
      ∧ m' ((c.tc : Thread Cert.DgradReferenceIdeal.nD Cert.DgradReferenceIdeal.τ).loc Cert.DgradReferenceIdeal.main_arg2) = m ((c.tc : Thread Cert.DgradIdeal.nD Cert.DgradIdeal.τ).loc Cert.DgradIdeal.main_arg2)
      ∧ m' ((c.tc : Thread Cert.DgradReferenceIdeal.nD Cert.DgradReferenceIdeal.τ).loc Cert.DgradReferenceIdeal.main_arg3) = m ((c.tc : Thread Cert.DgradIdeal.nD Cert.DgradIdeal.τ).loc Cert.DgradIdeal.main_arg3)
      ∧ m' ((c.tc : Thread Cert.DgradReferenceIdeal.nD Cert.DgradReferenceIdeal.τ).loc Cert.DgradReferenceIdeal.main_arg4) = m ((c.tc : Thread Cert.DgradIdeal.nD Cert.DgradIdeal.τ).loc Cert.DgradIdeal.main_arg4)
      ∧ m' ((c.tc : Thread Cert.DgradReferenceIdeal.nD Cert.DgradReferenceIdeal.τ).loc Cert.DgradReferenceIdeal.main_arg5) = m ((c.tc : Thread Cert.DgradIdeal.nD Cert.DgradIdeal.τ).loc Cert.DgradIdeal.main_arg5)
      ∧ m' ((c.tc : Thread Cert.DgradReferenceIdeal.nD Cert.DgradReferenceIdeal.τ).loc Cert.DgradReferenceIdeal.main_arg6) = m ((c.tc : Thread Cert.DgradIdeal.nD Cert.DgradIdeal.τ).loc Cert.DgradIdeal.main_arg6)
      ∧ m' ((c.tc : Thread Cert.DgradReferenceIdeal.nD Cert.DgradReferenceIdeal.τ).loc Cert.DgradReferenceIdeal.main_arg7) = m ((c.tc : Thread Cert.DgradIdeal.nD Cert.DgradIdeal.τ).loc Cert.DgradIdeal.main_arg7)

variable (hag : Agree m m' c)

include hag

/-- The reference reads the same rows of `x`. -/
theorem x_eq (q : Fin 2048) (d : Fin 4096) : Cert.DgradReferenceIdeal.Gen.V m' c Cert.DgradReferenceIdeal.main_v0 (ix2 q d) = X m c q d :=
  cast_congr (s := Cert.DgradIdeal.S2x1024x4096) (t := Cert.DgradIdeal.S2048x4096) hag.1 Cert.DgradIdeal.Gen.shapeCasts_S2x1024x4096_S2048x4096 (ix2 q d)

/-- The reference reads the same weights of the norm. -/
theorem g_eq (d : Fin 4096) : Cert.DgradReferenceIdeal.Gen.V m' c Cert.DgradReferenceIdeal.main_v2 (ix2 (0 : Fin 1) d) = Gm m c d :=
  cast_congr (s := Cert.DgradIdeal.S4096) (t := Cert.DgradIdeal.S1x4096) hag.2.1 Cert.DgradIdeal.Gen.shapeCasts_S4096_S1x4096 (ix2 (0 : Fin 1) d)

/-- The reference reads the same upstream gradient. -/
theorem dy_eq (q : Fin 2048) (o : Fin 16384) : Cert.DgradReferenceIdeal.Gen.V m' c Cert.DgradReferenceIdeal.main_v1 (ix2 q o) = DY m c q o :=
  cast_congr (s := Cert.DgradIdeal.S2x1024x16384) (t := Cert.DgradIdeal.S2048x16384) hag.2.2.2.2.1 Cert.DgradIdeal.Gen.shapeCasts_S2x1024x16384_S2048x16384 (ix2 q o)

/-- The reference reads the same weight codes. -/
theorem w_eq (d : Fin 4096) (o : Fin 16384) : Cert.DgradReferenceIdeal.Gen.V m' c Cert.DgradReferenceIdeal.main_arg2 (ix2 d o) = W m c d o := by
  rw [Cert.DgradReferenceIdeal.Gen.V_main_arg2, hag.2.2.1]
  rfl

/-- The reference reads the same inverse scale of the forward codes. -/
theorem s0_eq : Cert.DgradReferenceIdeal.Gen.V m' c Cert.DgradReferenceIdeal.main_arg5 (ix1 (0 : Fin 1)) = scal m c 0 := by
  rw [Cert.DgradReferenceIdeal.Gen.V_main_arg5, hag.2.2.2.2.2.1, Cert.DgradIdeal.Hand.scal_0]

/-- The reference reads the same inverse scale of the gradient's codes. -/
theorem s1_eq : Cert.DgradReferenceIdeal.Gen.V m' c Cert.DgradReferenceIdeal.main_arg6 (ix1 (0 : Fin 1)) = scal m c 1 := by
  rw [Cert.DgradReferenceIdeal.Gen.V_main_arg6, hag.2.2.2.2.2.2.1, Cert.DgradIdeal.Hand.scal_1]

/-- The reference multiplies the same two scales. -/
theorem s2_eq : (show EReal from Cert.DgradReferenceIdeal.Gen.V m' c Cert.DgradReferenceIdeal.main_arg7 (ix1 (0 : Fin 1)))
    * (show EReal from Cert.DgradReferenceIdeal.Gen.V m' c Cert.DgradReferenceIdeal.main_arg3 (ix1 (0 : Fin 1))) = scal m c 2 := by
  rw [Cert.DgradReferenceIdeal.Gen.V_main_arg7, Cert.DgradReferenceIdeal.Gen.V_main_arg3, hag.2.2.2.2.2.2.2, hag.2.2.2.1, Cert.DgradIdeal.Hand.scal_2]

/-- The reference's product is the whole sum. -/
theorem prod_eq (q : Fin 2048) (d : Fin 4096) :
    Cert.DgradReferenceIdeal.Gen.k0_pay10 (F := Ideal) (Cert.DgradReferenceIdeal.Gen.V m' c Cert.DgradReferenceIdeal.main_v1)
      (Cert.DgradReferenceIdeal.Gen.V m' c Cert.DgradReferenceIdeal.main_arg6 (ix1 (0 : Fin 1)))
      (Cert.DgradReferenceIdeal.Gen.V m' c Cert.DgradReferenceIdeal.main_arg2) (ix2 q d) = prod m c q d := by
  refine (Cert.DgradReferenceIdeal.Hand.pay10_apply _ _ _ q d).trans ?_
  unfold Cert.DgradReferenceIdeal.Hand.prodOf prod term
  refine Finset.sum_congr rfl fun o _ => ?_
  exact congrArg₂ (fun u v : EReal => u * v) (congrArg₂ dyCode (dy_eq m m' c hag q o) (s1_eq m m' c hag)) (w_eq m m' c hag d o)

/-- The input gradients agree. -/
theorem dx_eq : (Cert.DgradReferenceIdeal.Gen.dats (F := Ideal) m' 0 c).arrAt 8 Cert.DgradReferenceIdeal.cfg0.N = Cert.DgradIdeal.Value.G5 m c := by
  refine (Cert.DgradReferenceIdeal.Hand.final_8 m' c).trans ?_
  funext j
  obtain ⟨q, d, rfl⟩ : ∃ (q : Fin 2048) (d : Fin 4096), j = ix2 q d := ⟨j 0, j 1, eq_ix2 (n0 := 2048) (n1 := 4096) j⟩
  refine (Cert.DgradReferenceIdeal.Hand.pay2_apply _ _ _ _ _ q d).trans (Eq.trans ?_ (Cert.DgradIdeal.Hand.G5_apply m c q d).symm)
  exact congrFun (congr (congr (congr (congrArg dx (funext fun j => x_eq m m' c hag q j)) (funext fun j => prod_eq m m' c hag q j))
    (funext fun j => g_eq m m' c hag j)) (s2_eq m m' c hag)) d

/-- The weight gradients of the norm agree. -/
theorem dg_eq : (Cert.DgradReferenceIdeal.Gen.dats (F := Ideal) m' 0 c).arrAt 9 Cert.DgradReferenceIdeal.cfg0.N = Cert.DgradIdeal.Value.G6 m c := by
  refine (Cert.DgradReferenceIdeal.Hand.final_9 m' c).trans ?_
  funext j
  obtain ⟨z, d, rfl⟩ : ∃ (z : Fin 1) (d : Fin 4096), j = ix2 z d := ⟨j 0, j 1, eq_ix2 (n0 := 1) (n1 := 4096) j⟩
  obtain rfl : z = 0 := Subsingleton.elim _ _
  refine (Cert.DgradReferenceIdeal.Hand.pay3_apply _ _ _ _ d).trans (Eq.trans ?_ (Cert.DgradIdeal.Hand.G6_apply m c d).symm)
  refine Finset.sum_congr rfl fun q _ => ?_
  unfold dgPart
  exact congrFun (congr (congr (congrArg dgTerm (funext fun j => x_eq m m' c hag q j)) (funext fun j => prod_eq m m' c hag q j)) (s2_eq m m' c hag)) d

/-- The forward codes agree. -/
theorem xn_eq : (Cert.DgradReferenceIdeal.Gen.dats (F := Ideal) m' 0 c).arrAt 10 Cert.DgradReferenceIdeal.cfg0.N = Cert.DgradIdeal.Value.G7 m c := by
  refine (Cert.DgradReferenceIdeal.Hand.final_10 m' c).trans ?_
  funext j
  obtain ⟨q, d, rfl⟩ : ∃ (q : Fin 2048) (d : Fin 4096), j = ix2 q d := ⟨j 0, j 1, eq_ix2 (n0 := 2048) (n1 := 4096) j⟩
  refine (Cert.DgradReferenceIdeal.Hand.pay8_apply _ _ _ q d).trans (Eq.trans ?_ (Cert.DgradIdeal.Hand.G7_apply m c q d).symm)
  exact congrFun (congr (congr (congrArg xnCode (funext fun j => x_eq m m' c hag q j)) (funext fun j => g_eq m m' c hag j)) (s0_eq m m' c hag)) d

/-- The gradient's codes agree. -/
theorem dyc_eq : (Cert.DgradReferenceIdeal.Gen.dats (F := Ideal) m' 0 c).arrAt 11 Cert.DgradReferenceIdeal.cfg0.N = Cert.DgradIdeal.Value.G8 m c := by
  refine (Cert.DgradReferenceIdeal.Hand.final_11 m' c).trans ?_
  funext j
  obtain ⟨q, o, rfl⟩ : ∃ (q : Fin 2048) (o : Fin 16384), j = ix2 q o := ⟨j 0, j 1, eq_ix2 (n0 := 2048) (n1 := 16384) j⟩
  refine (Cert.DgradReferenceIdeal.Hand.pay9_apply _ _ q o).trans (Eq.trans ?_ (Cert.DgradIdeal.Hand.G8_apply m c q o).symm)
  exact congrArg₂ dyCode (dy_eq m m' c hag q o) (s1_eq m m' c hag)

end

/-- The input-gradient kernel computes what its reference computes. -/
theorem algebraic [hP : Cert.DgradIdeal.Facts] [hR : Cert.DgradReferenceIdeal.Facts] :
    Cert.algebraic_DgradIdeal_DgradReferenceIdeal := by
  intro m ρ m' ρ' _ hag
  refine ⟨fun c => Cert.DgradIdeal.Value.G5 m c, fun c => Cert.DgradIdeal.Value.G6 m c, fun c => Cert.DgradIdeal.Value.G7 m c,
    fun c => Cert.DgradIdeal.Value.G8 m c, ?_, ?_⟩
  · exact Cert.DgradIdeal.Value.run m ρ
  · exact (θ_run Cert.DgradReferenceIdeal.defs _ _).mono (fun _ h c => ⟨(h c).1.trans (dx_eq m m' c (hag c)), (h c).2.1.trans (dg_eq m m' c (hag c)),
      (h c).2.2.1.trans (xn_eq m m' c (hag c)), (h c).2.2.2.1.trans (dyc_eq m m' c (hag c)), (h c).2.2.2.2⟩)
      (Cert.DgradReferenceIdeal.Value.run_blocks m' ρ')

end Cert.Proof.DgradAlgebra

end
-- ==== Proof.StatsMath.lean ====
/-
  Magnitudes and maxima over the extended reals: the statements both the kernel's running maxima and the reference's
  one maximum are compared by.
-/
module

public import proofs.«01_k».proof.Proof.DgradMath
public import Idealize.ShloMosaic.Lib.Pointwise

@[expose] public section

noncomputable section

namespace Cert.StatsMath

open Idealize.ShloMosaic
open Cert.DgradMath
open scoped BigOperators

/-- The magnitude of an entry. -/
def mag (v : EReal) : EReal := FloatOps.absf (F := Ideal) (φ := .f32) v

/-- A magnitude is at least zero. -/
theorem mag_nonneg (v : EReal) : 0 ≤ mag v := by
  show 0 ≤ max v (-v)
  rcases le_total 0 v with h | h
  · exact le_max_of_le_left h
  · exact le_max_of_le_right (EReal.neg_nonneg.mpr h)

/-- The magnitude of an entry of the normalised row times the weights. -/
def xnMag (x g : Fin 4096 → EReal) (d : Fin 4096) : EReal := mag (xhat x d * g d)

/-- The pattern a 32-bit maximum starts from stands for minus infinity. -/
theorem bot_f32 : Ideal.ofBits FTy.f32 4286578688#32 = ⊥ := by
  simp [Ideal.ofBits, Ideal.ieee]

/-- The pattern a 16-bit maximum starts from stands for minus infinity. -/
theorem bot_bf16 : Ideal.ofBits FTy.bf16 65408#16 = ⊥ := by
  simp [Ideal.ofBits, Ideal.ieee]

/-- What the bounds of a maximum over everything are: the bounds of the start and of every entry. -/
theorem reduce_le {s t u : Shape} {φ : FTy} {axes : List (Fin s.rank)} (x : FVec Ideal s φ) (init : FVec Ideal u φ)
    (h : s.ReducesTo axes t) (hu : 0 < u.numel) (ht : ∀ j k : t.Idx, j = k) (hi : ∀ i, (init i : EReal) = ⊥) (j : t.Idx) (c : EReal) :
    (Host.reduce (FloatOps.maximumf (F := Ideal) (φ := φ)) x init h hu j : EReal) ≤ c ↔ ∀ i, (x i : EReal) ≤ c := by
  haveI : Std.Commutative (FloatOps.maximumf (F := Ideal) (φ := φ)) := ⟨fun a b => max_comm (α := EReal) a b⟩
  haveI : Std.Associative (FloatOps.maximumf (F := Ideal) (φ := φ)) := ⟨fun a b d => max_assoc (α := EReal) a b d⟩
  rw [Host.reduce_eq_fold]
  refine (Finset.fold_max_le (β := EReal) (s := Finset.univ.filter fun i => h.drop i = j) (f := x) c).trans ?_
  constructor
  · exact fun e i => e.2 i (Finset.mem_filter.mpr ⟨Finset.mem_univ _, ht _ _⟩)
  · exact fun e => ⟨(hi _).le.trans bot_le, fun i _ => e i⟩

/-- A bound of a larger-of-two whose second is a maximum over a block. -/
theorem max_fold_le {n : ℕ} (a : EReal) (f : Fin n → EReal) (c : EReal) :
    max a (Finset.univ.fold max (⊥ : EReal) f) ≤ c ↔ a ≤ c ∧ ∀ r, f r ≤ c := by
  rw [max_le_iff, Finset.fold_max_le]
  exact ⟨fun h => ⟨h.1, fun r => h.2.2 r (Finset.mem_univ r)⟩, fun h => ⟨h.1, bot_le, fun r _ => h.2 r⟩⟩

/-- Two values with the same bounds are one. -/
theorem eq_of_bounds {a b : EReal} (h : ∀ c, a ≤ c ↔ b ≤ c) : a = b := eq_of_forall_ge_iff h

end Cert.StatsMath

end
-- ==== Proof.StatsCases.lean ====
/-
  What one grid point of the statistics kernel leaves in its two rows of running maxima.
-/
module

public import proofs.«01_k».proof.Proof.Gen.StatsIdeal.Frame
public import proofs.«01_k».proof.Proof.StatsMath
public import Idealize.ShloMosaic.Lib.Pointwise
public import Idealize.ShloMosaic.Lib.VecWindow

@[expose] public section

set_option maxRecDepth 16384

noncomputable section

namespace Cert.StatsIdeal.Hand

open Cert.StatsIdeal Cert.StatsIdeal.Gen Idealize.ShloMosaic Idealize.ShloMosaic.TcCoe Idealize.SL.Sem
open Idealize.ShloMosaic.Pipeline (Dat)
open Idealize.ShloMosaic.Pointwise
open Cert.DgradMath Cert.StatsMath
open scoped BigOperators

/-- A rectangle at the origin has zero offsets. -/
theorem hz : (![0, 0] : Fin 2 → ℕ) = fun _ => 0 := by
  funext j
  match j with
  | ⟨0, _⟩ => rfl
  | ⟨1, _⟩ => rfl

section

variable (c : Dev nD) (i : grid0.Coords) (arg1 : Memref sig .tc .vmem S128x4096 .bf16) (harg1 : arg1.IsWhole)
  (arg2 : Memref sig .tc .vmem S1x4096 .f32) (harg2 : arg2.IsWhole) (arg3 : Memref sig .tc .vmem S128x16384 .bf16) (harg3 : arg3.IsWhole)
  (arg4 : Memref sig .tc .vmem S1x4096 .f32) (harg4 : arg4.IsWhole) (arg5 : Memref sig .tc .vmem S1x16384 .f32) (harg5 : arg5.IsWhole)
variable (x0 : Vec Ideal S128x4096 .bf16) (x1 : Vec Ideal S1x4096 .f32) (x2 : Vec Ideal S128x16384 .bf16)
  (xo3 : Vec Ideal S1x4096 .f32) (xo4 : Vec Ideal S1x16384 .f32)

/-- The first row after the first point: the maxima of the point's block over zeros. -/
theorem x_A (hc0 : cond0_0 i) :
    out0_A_3 c i arg1 harg1 arg2 harg2 arg3 harg3 arg4 harg4 arg5 harg5 hc0 x0 x1 x2 = k0_pay3 x0 x1 (k0_pay1 (F := Ideal)) := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_cons_unit_zero hz]
  simp only [View.readAt_eq_ld, harg1.read_unread, harg2.read_unread, harg3.read_unread, harg4.read_unread, harg5.read_unread, View.ld_unit_zero (S := S128x4096) hz, View.ld_unit_zero (S := S1x4096) hz, View.ld_unit_zero (S := S128x16384) hz, View.ld_unit_zero (S := S1x16384) hz, View.readCov_unit_zero (S := S1x4096) _ hz, View.readCov_unit_zero (S := S1x16384) _ hz, shapeCast_self]

/-- The second row after the first point: the maxima of the point's block over zeros. -/
theorem y_A (hc0 : cond0_0 i) :
    out0_A_4 c i arg1 harg1 arg2 harg2 arg3 harg3 arg4 harg4 arg5 harg5 hc0 x0 x1 x2 = k0_pay4 (k0_pay2 (F := Ideal)) x2 := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero hz]
  simp only [View.readAt_eq_ld, harg1.read_unread, harg2.read_unread, harg3.read_unread, harg4.read_unread, harg5.read_unread, View.ld_unit_zero (S := S128x4096) hz, View.ld_unit_zero (S := S1x4096) hz, View.ld_unit_zero (S := S128x16384) hz, View.ld_unit_zero (S := S1x16384) hz, View.readCov_unit_zero (S := S1x4096) _ hz, View.readCov_unit_zero (S := S1x16384) _ hz, shapeCast_self]

/-- The first row after a later point: the maxima of the point's block over what the row held. -/
theorem x_B (hc0 : ¬cond0_0 i) :
    out0_B_3 c i arg1 harg1 arg2 harg2 arg3 harg3 arg4 harg4 arg5 harg5 hc0 x0 x1 x2 xo3 xo4 = k0_pay3 x0 x1 xo3 := by
  unfold out0_B_3
  rw [View.read_writes_eq_canon _ _ _ (cover0_B_3 c i arg1 harg1 arg2 harg2 arg3 harg3 arg4 harg4 arg5 harg5 hc0 x0 x1 x2 xo3 xo4)]
  unfold kernelRun0_B
  dsimp only
  sl_unfold_words
  rw [View.canon_cons_unit_zero hz]
  simp only [View.readAt_eq_ld, harg1.read_unread, harg2.read_unread, harg3.read_unread, harg4.read_unread, harg5.read_unread, View.ld_unit_zero (S := S128x4096) hz, View.ld_unit_zero (S := S1x4096) hz, View.ld_unit_zero (S := S128x16384) hz, View.ld_unit_zero (S := S1x16384) hz, View.readCov_unit_zero (S := S1x4096) _ hz, View.readCov_unit_zero (S := S1x16384) _ hz, shapeCast_self]

/-- The second row after a later point: the maxima of the point's block over what the row held. -/
theorem y_B (hc0 : ¬cond0_0 i) :
    out0_B_4 c i arg1 harg1 arg2 harg2 arg3 harg3 arg4 harg4 arg5 harg5 hc0 x0 x1 x2 xo3 xo4 = k0_pay4 xo4 x2 := by
  unfold out0_B_4
  rw [View.read_writes_eq_canon _ _ _ (cover0_B_4 c i arg1 harg1 arg2 harg2 arg3 harg3 arg4 harg4 arg5 harg5 hc0 x0 x1 x2 xo3 xo4)]
  unfold kernelRun0_B
  dsimp only
  sl_unfold_words
  rw [View.canon_cons_unit_zero hz]
  simp only [View.readAt_eq_ld, harg1.read_unread, harg2.read_unread, harg3.read_unread, harg4.read_unread, harg5.read_unread, View.ld_unit_zero (S := S128x4096) hz, View.ld_unit_zero (S := S1x4096) hz, View.ld_unit_zero (S := S128x16384) hz, View.ld_unit_zero (S := S1x16384) hz, View.readCov_unit_zero (S := S1x4096) _ hz, View.readCov_unit_zero (S := S1x16384) _ hz, shapeCast_self]

end

/-- The first row after a point, entry by entry: the larger of what it held and the block's largest magnitude. -/
theorem pay3_apply (x0 : Vec Ideal S128x4096 .bf16) (x1 : Vec Ideal S1x4096 .f32) (xo3 : Vec Ideal S1x4096 .f32) (d : Fin 4096) :
    k0_pay3 x0 x1 xo3 (ix2 (0 : Fin 1) d) = max (xo3 (ix2 (0 : Fin 1) d)) (Finset.univ.fold max (⊥ : EReal)
      fun r : Fin 128 => xnMag (fun j => x0 (ix2 r j)) (fun j => x1 (ix2 (0 : Fin 1) j)) d) := by
  rw [← bot_f32]
  unfold xnMag xhat rInv mag
  pointwise [k0_pay3]

/-- The second row after a point, entry by entry. -/
theorem pay4_apply (x0 : Vec Ideal S128x16384 .bf16) (xo3 : Vec Ideal S1x16384 .f32) (d : Fin 16384) :
    k0_pay4 xo3 x0 (ix2 (0 : Fin 1) d) = max (xo3 (ix2 (0 : Fin 1) d)) (Finset.univ.fold max (⊥ : EReal)
      fun r : Fin 128 => mag (x0 (ix2 r d))) := by
  rw [← bot_bf16]
  unfold mag
  pointwise [k0_pay4]
  rfl

/-- The first row starts at zero. -/
theorem pay1_apply (d : Fin 4096) : k0_pay1 (F := Ideal) (ix2 (0 : Fin 1) d) = (0 : EReal) := by
  pointwise [k0_pay1]

/-- The second row starts at zero. -/
theorem pay2_apply (d : Fin 16384) : k0_pay2 (F := Ideal) (ix2 (0 : Fin 1) d) = (0 : EReal) := by
  pointwise [k0_pay2]

end Cert.StatsIdeal.Hand

end
-- ==== Proof.StatsFold.lean ====
/-
  The statistics kernel over its 16 grid points: which rows of the arguments each point reads, what bounds the two rows of
  running maxima after each point, and the two arrays the call ends with.
-/
module

public import proofs.«01_k».proof.Proof.StatsCases
public import proofs.«01_k».proof.Proof.StatsMath
public import Idealize.ShloMosaic.Lib.Pipeline.Value

@[expose] public section

set_option maxRecDepth 16384

noncomputable section

namespace Cert.StatsIdeal.Hand

open Cert.StatsIdeal Cert.StatsIdeal.Gen Idealize.ShloMosaic Idealize.ShloMosaic.TcCoe Idealize.SL.Sem
open Idealize.ShloMosaic.Pipeline (Dat)
open Idealize.ShloMosaic.Pointwise
open Cert.DgradMath Cert.StatsMath
open scoped BigOperators

variable (m : (ℓ : Loc nD τ sig) → Buf (Elt Ideal) ℓ)

/-- The rows of `x`, as the call gets them. -/
def X (c : Dev nD) (q : Fin 2048) (d : Fin 4096) : EReal := V m c main_v0 (ix2 q d)
/-- The norm's weights. -/
def Gm (c : Dev nD) (d : Fin 4096) : EReal := V m c main_v2 (ix2 (0 : Fin 1) d)
/-- The upstream gradient. -/
def DY (c : Dev nD) (q : Fin 2048) (o : Fin 16384) : EReal := V m c main_v1 (ix2 q o)

/-- Row `r` of the block of rows at point `t`. -/
abbrev row (t : Fin cfg0.N) (r : Fin 128) : Fin 2048 :=
  ⟨128 * t.val + r.val, by have := lt_of_lt_of_eq t.isLt (show cfg0.N = 16 from N_0); have := r.isLt; omega⟩

/-- The index maps at point `t`. -/
theorem idx_all : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0)

/-- The block of `x` at point `t`: its rows, all columns. -/
theorem iblk0 (c : Dev nD) (t : Fin cfg0.N) (r : Fin 128) (d : Fin 4096) : iblk m c 0 t (ix2 r d) = X m c (row t r) d := by
  obtain ⟨h0, h1, _⟩ := idx_all t
  unfold iblk X
  rw [View.read_apply]
  show V m c main_v0 _ = _
  refine congrArg _ ?_
  funext x
  apply Fin.ext
  match x with
  | ⟨0, _⟩ => show win0_0.index t (0 : Fin 2) * 128 + 1 * r.val = 128 * t.val + r.val; rw [h0]; omega
  | ⟨1, _⟩ => show win0_0.index t (1 : Fin 2) * 4096 + 1 * d.val = d.val; rw [h1]; omega

/-- The norm's weights at point `t`: all of them. -/
theorem iblk1 (c : Dev nD) (t : Fin cfg0.N) (d : Fin 4096) : iblk m c 1 t (ix2 (0 : Fin 1) d) = Gm m c d := by
  obtain ⟨_, _, h0, h1, _⟩ := idx_all t
  unfold iblk Gm
  rw [View.read_apply]
  show V m c main_v2 _ = _
  refine congrArg _ ?_
  funext x
  apply Fin.ext
  match x with
  | ⟨0, _⟩ => show win0_1.index t (0 : Fin 2) * 1 + 1 * 0 = 0; rw [h0]
  | ⟨1, _⟩ => show win0_1.index t (1 : Fin 2) * 4096 + 1 * d.val = d.val; rw [h1]; omega

/-- The block of the upstream gradient at point `t`: its rows, all columns. -/
theorem iblk2 (c : Dev nD) (t : Fin cfg0.N) (r : Fin 128) (o : Fin 16384) : iblk m c 2 t (ix2 r o) = DY m c (row t r) o := by
  obtain ⟨_, _, _, _, h0, h1, _⟩ := idx_all t
  unfold iblk DY
  rw [View.read_apply]
  show V m c main_v1 _ = _
  refine congrArg _ ?_
  funext x
  apply Fin.ext
  match x with
  | ⟨0, _⟩ => show win0_2.index t (0 : Fin 2) * 128 + 1 * r.val = 128 * t.val + r.val; rw [h0]; omega
  | ⟨1, _⟩ => show win0_2.index t (1 : Fin 2) * 16384 + 1 * o.val = o.val; rw [h1]; omega

/-- What the rows hold after the first point. -/
theorem outs_first (c : Dev nD) (t : Fin cfg0.N) (h : t.val % 16 = 0) :
    (outsAt0 m c t.val t.isLt) = (k0_pay3 (iblk m c 0 t) (iblk m c 1 t) (k0_pay1 (F := Ideal)), k0_pay4 (k0_pay2 (F := Ideal)) (iblk m c 2 t)) := by
  rw [outsAt0_A m c t h, x_A, y_A]

/-- What the rows hold after any other point. -/
theorem outs_next (c : Dev nD) (t : Fin cfg0.N) (h : ¬t.val % 16 = 0) (hp : t.val - 1 < cfg0.N) :
    (outsAt0 m c t.val t.isLt) = (k0_pay3 (iblk m c 0 t) (iblk m c 1 t) (outsAt0 m c (t.val - 1) hp).1, k0_pay4 (outsAt0 m c (t.val - 1) hp).2 (iblk m c 2 t)) := by
  rw [outsAt0_B m c t h, x_B, y_B]

/-- A bound of the first row after a point. -/
theorem step_x (c : Dev nD) (t : Fin cfg0.N) (a : Vec Ideal S1x4096 .f32) (d : Fin 4096) (k : EReal) :
    k0_pay3 (iblk m c 0 t) (iblk m c 1 t) a (ix2 (0 : Fin 1) d) ≤ k
      ↔ a (ix2 (0 : Fin 1) d) ≤ k ∧ ∀ r : Fin 128, xnMag (X m c (row t r)) (Gm m c) d ≤ k := by
  rw [pay3_apply, max_fold_le]
  refine and_congr Iff.rfl (forall_congr' fun r => ?_)
  rw [show (fun j => iblk m c 0 t (ix2 r j)) = X m c (row t r) from funext fun j => iblk0 m c t r j,
    show (fun j => iblk m c 1 t (ix2 (0 : Fin 1) j)) = Gm m c from funext fun j => iblk1 m c t j]

/-- A bound of the second row after a point. -/
theorem step_y (c : Dev nD) (t : Fin cfg0.N) (a : Vec Ideal S1x16384 .f32) (o : Fin 16384) (k : EReal) :
    k0_pay4 a (iblk m c 2 t) (ix2 (0 : Fin 1) o) ≤ k
      ↔ a (ix2 (0 : Fin 1) o) ≤ k ∧ ∀ r : Fin 128, mag (DY m c (row t r) o) ≤ k := by
  rw [pay4_apply, max_fold_le]
  refine and_congr Iff.rfl (forall_congr' fun r => ?_)
  rw [iblk2 m c t r o]

/-- Rows up to a point's are the rows before it and its own. -/
theorem rows_succ (n : ℕ) (hn : n < cfg0.N) (P : Fin 2048 → Prop) :
    (∀ q : Fin 2048, q.val < 128 * (n + 1) → P q) ↔ (∀ q : Fin 2048, q.val < 128 * n → P q) ∧ ∀ r : Fin 128, P (row ⟨n, hn⟩ r) := by
  constructor
  · exact fun h => ⟨fun q hq => h q (by omega), fun r => h _ (by have := r.isLt; show 128 * n + r.val < _; omega)⟩
  · rintro ⟨h1, h2⟩ q hq
    by_cases hb : q.val < 128 * n
    · exact h1 q hb
    · have e : row ⟨n, hn⟩ ⟨q.val - 128 * n, by omega⟩ = q := Fin.ext (by show 128 * n + (q.val - 128 * n) = q.val; omega)
      exact e ▸ h2 ⟨q.val - 128 * n, by omega⟩

/-- The bounds of the two rows after point `n`: zero, and the magnitudes of the rows up to the point's. -/
theorem outs_le (c : Dev nD) : ∀ (n : ℕ) (hn : n < cfg0.N),
    (∀ (d : Fin 4096) (k : EReal), (outsAt0 m c n hn).1 (ix2 (0 : Fin 1) d) ≤ k
      ↔ 0 ≤ k ∧ ∀ q : Fin 2048, q.val < 128 * (n + 1) → xnMag (X m c q) (Gm m c) d ≤ k)
    ∧ (∀ (o : Fin 16384) (k : EReal), (outsAt0 m c n hn).2 (ix2 (0 : Fin 1) o) ≤ k
      ↔ 0 ≤ k ∧ ∀ q : Fin 2048, q.val < 128 * (n + 1) → mag (DY m c q o) ≤ k) := by
  intro n
  induction n with
  | zero =>
    intro hn
    rw [outs_first m c ⟨0, hn⟩ rfl]
    refine ⟨fun d k => ?_, fun o k => ?_⟩
    · refine (step_x m c ⟨0, hn⟩ _ d k).trans ?_
      rw [pay1_apply, rows_succ 0 hn]
      exact and_congr Iff.rfl ⟨fun h => ⟨fun q hq => absurd hq (by omega), h⟩, fun h => h.2⟩
    · refine (step_y m c ⟨0, hn⟩ _ o k).trans ?_
      rw [pay2_apply, rows_succ 0 hn]
      exact and_congr Iff.rfl ⟨fun h => ⟨fun q hq => absurd hq (by omega), h⟩, fun h => h.2⟩
  | succ n ih =>
    intro hn
    have hN := lt_of_lt_of_eq hn (show cfg0.N = 16 from N_0)
    have hn' : n < cfg0.N := Nat.lt_of_succ_lt hn
    rw [outs_next m c ⟨n + 1, hn⟩ (by show ¬(n + 1) % 16 = 0; omega) hn']
    obtain ⟨hx, hy⟩ := ih hn'
    refine ⟨fun d k => ?_, fun o k => ?_⟩
    · refine (step_x m c ⟨n + 1, hn⟩ _ d k).trans ?_
      rw [rows_succ (n + 1) hn, ← and_assoc]
      exact and_congr (hx d k) Iff.rfl
    · refine (step_y m c ⟨n + 1, hn⟩ _ o k).trans ?_
      rw [rows_succ (n + 1) hn, ← and_assoc]
      exact and_congr (hy o k) Iff.rfl

/-- The last point. -/
theorem h15 : 15 < cfg0.N := lt_of_lt_of_eq (by decide) (show cfg0.N = 16 from N_0).symm

/-- The array of the first row after the run: what the row holds after the last point. -/
theorem final_3 (c : Dev nD) : (dats m 0 c).arrAt 3 cfg0.N = (outsAt0 m c 15 h15).1 := by
  refine (dats m 0 c).arrAt_eq_of_cover 3 _ (fun t hf => ?_) (fun i => ?_)
  · show (cfg0.win 3).cut (grid0.coords t) ((dats m 0 c).after 3 t) = _
    rw [after0_3]
    have hm : t.val % 16 = 15 := (flush0_3 t).mp hf
    have hN := lt_of_lt_of_eq t.isLt (show cfg0.N = 16 from N_0)
    obtain rfl : t = ⟨15, h15⟩ := Fin.ext (by show t.val = 15; omega)
    obtain ⟨_, _, _, _, _, _, h0, h1, _⟩ := idx_all ⟨15, h15⟩
    funext y
    have hy0 : (y 0).val < 1 := (y 0).isLt
    show (outsAt0 m c 15 h15).1 ((cfg0.win 3).xinj (grid0.coords ⟨15, h15⟩) y) = (outsAt0 m c 15 h15).1 (((cfg0.win 3).blk ⟨15, h15⟩).view.emb y)
    refine congrArg _ ?_
    funext a
    apply Fin.ext
    match a with
    | ⟨0, _⟩ => show (y 0).val = win0_3.index ⟨15, h15⟩ (0 : Fin 2) * 1 + 1 * (y 0).val; rw [h0]; omega
    | ⟨1, _⟩ => show (y 1).val = win0_3.index ⟨15, h15⟩ (1 : Fin 2) * 4096 + 1 * (y 1).val; rw [h1]; omega
  · have hi0 : (i 0).val < 1 := (i 0).isLt
    have hi1 : (i 1).val < 4096 := (i 1).isLt
    obtain ⟨_, _, _, _, _, _, h0, h1, _⟩ := idx_all ⟨15, h15⟩
    refine ⟨⟨15, h15⟩, (flush0_3 ⟨15, h15⟩).mpr rfl, ?_⟩
    show i ∈ ((View.whole main_v3_0).slice (win0_3.rect ⟨15, h15⟩)).set
    rw [View.set_slice_whole, Rect.mem_set_unit]
    intro a
    match a with
    | ⟨0, _⟩ => show win0_3.index ⟨15, h15⟩ (0 : Fin 2) * 1 ≤ (i 0).val ∧ (i 0).val < win0_3.index ⟨15, h15⟩ (0 : Fin 2) * 1 + 1; rw [h0]; omega
    | ⟨1, _⟩ => show win0_3.index ⟨15, h15⟩ (1 : Fin 2) * 4096 ≤ (i 1).val ∧ (i 1).val < win0_3.index ⟨15, h15⟩ (1 : Fin 2) * 4096 + 4096; rw [h1]; omega

/-- The array of the second row after the run: what the row holds after the last point. -/
theorem final_4 (c : Dev nD) : (dats m 0 c).arrAt 4 cfg0.N = (outsAt0 m c 15 h15).2 := by
  refine (dats m 0 c).arrAt_eq_of_cover 4 _ (fun t hf => ?_) (fun i => ?_)
  · show (cfg0.win 4).cut (grid0.coords t) ((dats m 0 c).after 4 t) = _
    rw [after0_4]
    have hm : t.val % 16 = 15 := (flush0_4 t).mp hf
    have hN := lt_of_lt_of_eq t.isLt (show cfg0.N = 16 from N_0)
    obtain rfl : t = ⟨15, h15⟩ := Fin.ext (by show t.val = 15; omega)
    obtain ⟨_, _, _, _, _, _, _, _, h0, h1⟩ := idx_all ⟨15, h15⟩
    funext y
    have hy0 : (y 0).val < 1 := (y 0).isLt
    show (outsAt0 m c 15 h15).2 ((cfg0.win 4).xinj (grid0.coords ⟨15, h15⟩) y) = (outsAt0 m c 15 h15).2 (((cfg0.win 4).blk ⟨15, h15⟩).view.emb y)
    refine congrArg _ ?_
    funext a
    apply Fin.ext
    match a with
    | ⟨0, _⟩ => show (y 0).val = win0_4.index ⟨15, h15⟩ (0 : Fin 2) * 1 + 1 * (y 0).val; rw [h0]; omega
    | ⟨1, _⟩ => show (y 1).val = win0_4.index ⟨15, h15⟩ (1 : Fin 2) * 16384 + 1 * (y 1).val; rw [h1]; omega
  · have hi0 : (i 0).val < 1 := (i 0).isLt
    have hi1 : (i 1).val < 16384 := (i 1).isLt
    obtain ⟨_, _, _, _, _, _, _, _, h0, h1⟩ := idx_all ⟨15, h15⟩
    refine ⟨⟨15, h15⟩, (flush0_4 ⟨15, h15⟩).mpr rfl, ?_⟩
    show i ∈ ((View.whole main_v3_1).slice (win0_4.rect ⟨15, h15⟩)).set
    rw [View.set_slice_whole, Rect.mem_set_unit]
    intro a
    match a with
    | ⟨0, _⟩ => show win0_4.index ⟨15, h15⟩ (0 : Fin 2) * 1 ≤ (i 0).val ∧ (i 0).val < win0_4.index ⟨15, h15⟩ (0 : Fin 2) * 1 + 1; rw [h0]; omega
    | ⟨1, _⟩ => show win0_4.index ⟨15, h15⟩ (1 : Fin 2) * 16384 ≤ (i 1).val ∧ (i 1).val < win0_4.index ⟨15, h15⟩ (1 : Fin 2) * 16384 + 16384; rw [h1]; omega

end Cert.StatsIdeal.Hand

end
-- ==== Proof.StatsTail.lean ====
/-
  What the host lines after the statistics kernel make of the two rows of maxima: the exponent of the scale, and the
  power of two it stands for.
-/
module

public import proofs.«01_k».proof.Proof.Gen.StatsIdeal.Launch
public import Idealize.ShloMosaic.Lib.Pipeline.FrameSuffix
public import Idealize.ShloMosaic.Lib.StableHlo.Run
public import Idealize.ShloMosaic.Lib.Pointwise

@[expose] public section

set_option maxRecDepth 16384

noncomputable section

namespace Cert.StatsIdeal.Hand

open Cert.StatsIdeal Cert.StatsIdeal.Gen Idealize.ShloMosaic Idealize.ShloMosaic.TcCoe Idealize.SL.Sem Idealize.ShloMosaic.StableHlo

/-- The exponent of a scale from the value the scale must reach: how many of the table's powers of two are at most that
    value, counted from the smallest; 0 where the maximum is 0. -/
def expoOf (tbl : FVec Ideal S277 .f32) (v : FVec Ideal S_ .f32) (z : IVec S_ 1) : IVec S_ 32 :=
  select z (constantI S_ 32 0#32)
    (subi (Host.reduce IntOp.addi (extui 32 (cmpf .oge (broadcastInDim S277 ![] bcast_S_S277 v) tbl) natLt_1_32 : IVec S277 32)
      (constantI S_ 32 0#32) reducesTo_S277_S_d0 h_S_) (constantI S_ 32 149#32))

/-- The exponent of the forward scale from the largest magnitude of the normalised rows. -/
def expoX (tbl : FVec Ideal S277 .f32) (a : FVec Ideal S_ .f32) : IVec S_ 32 :=
  expoOf tbl (mulf a (constant S_ .f32 0x3B124925#32)) (cmpf .oeq a (constant S_ .f32 0x00000000#32))

/-- The exponent of the gradient's scale from the largest magnitude of the gradient. -/
def expoY (tbl : FVec Ideal S277 .f32) (a : FVec Ideal S_ .bf16) : IVec S_ 32 :=
  expoOf tbl (extf .f32 (mulf a (constant S_ .bf16 0x3792#16)) bitsLt_bf16_f32) (cmpf .oeq a (constant S_ .bf16 0x0000#16))

/-- The power of two an exponent stands for, read off the table of powers. -/
def powOf (tbl : FVec Ideal S298 .f32) (e : IVec S_ 32) : FVec Ideal S1 .f32 :=
  mulf (broadcastInDim S1 ![] bcast_S_S1 (constant S_ .f32 0x3F800000#32))
    (broadcastInDim S1 ![] bcast_S_S1 (Host.reduceAdd
      (select (cmpi .eq (addi (broadcastInDim S298 ![] bcast_S_S298 (constantI S_ 32 4294967147#32)) (iotaInDim S298 32 0))
        (broadcastInDim S298 ![] bcast_S_S298 e)) tbl (broadcastInDim S298 ![] bcast_S_S298 (constant S_ .f32 0x00000000#32)))
      (constant S_ .f32 0x00000000#32) reducesTo_S298_S_d0 h_S_))

/-- The largest entry of the first row. -/
def maxX (x : FVec Ideal S1x4096 .f32) : FVec Ideal S_ .f32 :=
  Host.reduce FloatOps.maximumf x (constant S_ .f32 0xFF800000#32) reducesTo_S1x4096_S_d0_1 h_S_

/-- The largest entry of the second row. -/
def maxY (x : FVec Ideal S1x16384 .f32) : FVec Ideal S_ .bf16 :=
  Host.reduce FloatOps.maximumf (truncf .bf16 x bitsLt_bf16_f32) (constant S_ .bf16 0xFF80#16) reducesTo_S1x16384_S_d0_1 h_S_

/-- The host lines after the region, one list. -/
abbrev tail : List (HloOp τ sig (Elt Ideal)) :=
  [hostOps1, hostOps1_1, hostOps1_2, hostOps1_3, hostOps1_4, hostOps1_5, hostOps1_6, hostOps1_7, hostOps1_8, hostOps1_9, hostOps1_10, hostOps1_11, hostOps1_12].flatten

variable (W : Valuation τ sig (Elt Ideal))

set_option maxHeartbeats 20000000 in
/-- The forward scale after the host lines. -/
theorem tail_xs : after tail W (Proc.devRef .tc main_v33)
    = powOf (W (Proc.devRef .tc main_cst_1)) (expoX (W (Proc.devRef .tc main_cst)) (maxX (W (Proc.devRef .tc main_v3_0)))) := by
  simp only [tail, List.flatten_cons, List.flatten_nil, List.cons_append, List.nil_append, List.append_nil, TRef.ternary, TRef.unary, TRef.toBuf, TRef.ofBuf, cast_eq]
  after_results_simp <;> rfl

set_option maxHeartbeats 20000000 in
/-- The gradient's scale after the host lines. -/
theorem tail_ys : after tail W (Proc.devRef .tc main_v42)
    = powOf (W (Proc.devRef .tc main_cst_2)) (expoY (W (Proc.devRef .tc main_cst_0)) (maxY (W (Proc.devRef .tc main_v3_1)))) := by
  simp only [tail, List.flatten_cons, List.flatten_nil, List.cons_append, List.nil_append, List.append_nil, TRef.ternary, TRef.unary, TRef.toBuf, TRef.ofBuf, cast_eq]
  after_results_simp <;> rfl

set_option maxHeartbeats 20000000 in
/-- The forward scale's inverse after the host lines. -/
theorem tail_xinv : after tail W (Proc.devRef .tc main_v52)
    = powOf (W (Proc.devRef .tc main_cst_3)) (negi (expoX (W (Proc.devRef .tc main_cst)) (maxX (W (Proc.devRef .tc main_v3_0))))) := by
  simp only [tail, List.flatten_cons, List.flatten_nil, List.cons_append, List.nil_append, List.append_nil, TRef.ternary, TRef.unary, TRef.toBuf, TRef.ofBuf, cast_eq]
  after_results_simp <;> rfl

set_option maxHeartbeats 20000000 in
/-- The inverse of the gradient's scale after the host lines. -/
theorem tail_yinv : after tail W (Proc.devRef .tc main_v62)
    = powOf (W (Proc.devRef .tc main_cst_4)) (negi (expoY (W (Proc.devRef .tc main_cst_0)) (maxY (W (Proc.devRef .tc main_v3_1))))) := by
  simp only [tail, List.flatten_cons, List.flatten_nil, List.cons_append, List.nil_append, List.append_nil, TRef.ternary, TRef.unary, TRef.toBuf, TRef.ofBuf, cast_eq]
  after_results_simp <;> rfl

end Cert.StatsIdeal.Hand

end
-- ==== Proof.StatsValue.lean ====
/-
  The statistics kernel's four results: the scales its host lines make of the largest magnitudes, and what bounds those.
-/
module

public import proofs.«01_k».proof.Proof.StatsFold
public import proofs.«01_k».proof.Proof.StatsTail

@[expose] public section

set_option maxRecDepth 16384

noncomputable section

namespace Cert.StatsIdeal.Hand

open Cert.StatsIdeal Cert.StatsIdeal.Gen Idealize.ShloMosaic Idealize.ShloMosaic.TcCoe Idealize.SL.Sem
open Idealize.ShloMosaic.Pipeline (Dat)
open Idealize.ShloMosaic.Pointwise
open Cert.DgradMath Cert.StatsMath
open scoped BigOperators

variable (m : (ℓ : Loc nD τ sig) → Buf (Elt Ideal) ℓ) (ρ : Dev nD → PrngReg)

/-- The powers of two a forward scale's exponent is counted among. -/
abbrev tblX : FVec Ideal S277 .f32 := fun i => FloatOps.ofBits .f32 (lit0 (S277.rowMajor i))
/-- The powers of two the gradient's scale's exponent is counted among. -/
abbrev tblY : FVec Ideal S277 .f32 := fun i => FloatOps.ofBits .f32 (lit1 (S277.rowMajor i))
/-- The powers of two the forward scale is read from. -/
abbrev powX : FVec Ideal S298 .f32 := fun i => FloatOps.ofBits .f32 (lit2 (S298.rowMajor i))
/-- The powers of two the gradient's scale is read from. -/
abbrev powY : FVec Ideal S298 .f32 := fun i => FloatOps.ofBits .f32 (lit3 (S298.rowMajor i))
/-- The powers of two the forward scale's inverse is read from. -/
abbrev powXi : FVec Ideal S298 .f32 := fun i => FloatOps.ofBits .f32 (lit4 (S298.rowMajor i))
/-- The powers of two the inverse of the gradient's scale is read from. -/
abbrev powYi : FVec Ideal S298 .f32 := fun i => FloatOps.ofBits .f32 (lit5 (S298.rowMajor i))

/-- The memory the host lines after the region start from. -/
abbrev W (c : Dev nD) : Valuation τ sig (Elt Ideal) :=
  Pipeline.withArrays (cfgs 0).spec c (V0 m c) fun w => (dats m 0 c).arrAt w (cfgs 0).N

/-- The host lines after the call find the first table as launched. -/
theorem W_cst (c : Dev nD) : W m c (Proc.devRef .tc main_cst) = tblX :=
  (Pipeline.withArrays_of_ne spec0 c (V0 m c) _ main_cst (by decide)).trans rfl
/-- The second table, likewise. -/
theorem W_cst_0 (c : Dev nD) : W m c (Proc.devRef .tc main_cst_0) = tblY :=
  (Pipeline.withArrays_of_ne spec0 c (V0 m c) _ main_cst_0 (by decide)).trans rfl
/-- The table of the forward scale's powers, likewise. -/
theorem W_cst_1 (c : Dev nD) : W m c (Proc.devRef .tc main_cst_1) = powX :=
  (Pipeline.withArrays_of_ne spec0 c (V0 m c) _ main_cst_1 (by decide)).trans rfl
/-- The table of the gradient's scale's powers, likewise. -/
theorem W_cst_2 (c : Dev nD) : W m c (Proc.devRef .tc main_cst_2) = powY :=
  (Pipeline.withArrays_of_ne spec0 c (V0 m c) _ main_cst_2 (by decide)).trans rfl
/-- The table of the forward scale's inverse's powers, likewise. -/
theorem W_cst_3 (c : Dev nD) : W m c (Proc.devRef .tc main_cst_3) = powXi :=
  (Pipeline.withArrays_of_ne spec0 c (V0 m c) _ main_cst_3 (by decide)).trans rfl
/-- The table of the powers for the inverse of the gradient's scale, likewise. -/
theorem W_cst_4 (c : Dev nD) : W m c (Proc.devRef .tc main_cst_4) = powYi :=
  (Pipeline.withArrays_of_ne spec0 c (V0 m c) _ main_cst_4 (by decide)).trans rfl

/-- The windows' arrays are different arrays. -/
theorem arr_inj : Function.Injective (Pipeline.arrRef spec0) := by decide

/-- The first row of maxima is what the last point left. -/
theorem W_x (c : Dev nD) : W m c (Proc.devRef .tc main_v3_0) = (outsAt0 m c 15 h15).1 :=
  (Pipeline.withArrays_arr spec0 arr_inj c (V0 m c) (fun w => (dats m 0 c).arrAt w (cfgs 0).N) 3).trans (final_3 m c)
/-- The second row of maxima is what the last point left. -/
theorem W_y (c : Dev nD) : W m c (Proc.devRef .tc main_v3_1) = (outsAt0 m c 15 h15).2 :=
  (Pipeline.withArrays_arr spec0 arr_inj c (V0 m c) (fun w => (dats m 0 c).arrAt w (cfgs 0).N) 4).trans (final_4 m c)

/-- The largest magnitude of the normalised rows times the weights. -/
def aX (c : Dev nD) : FVec Ideal S_ .f32 := maxX (outsAt0 m c 15 h15).1
/-- The largest magnitude of the upstream gradient. -/
def aY (c : Dev nD) : FVec Ideal S_ .bf16 := maxY (outsAt0 m c 15 h15).2

/-- The forward scale. -/
def G0 (c : Dev nD) : FVec Ideal S1 .f32 := powOf powX (expoX tblX (aX m c))
/-- The gradient's scale. -/
def G1 (c : Dev nD) : FVec Ideal S1 .f32 := powOf powY (expoY tblY (aY m c))
/-- The forward scale's inverse. -/
def G2 (c : Dev nD) : FVec Ideal S1 .f32 := powOf powXi (negi (expoX tblX (aX m c)))
/-- The inverse of the gradient's scale. -/
def G3 (c : Dev nD) : FVec Ideal S1 .f32 := powOf powYi (negi (expoY tblY (aY m c)))

/-- The host lines end with the forward scale. -/
theorem W_G0 (c : Dev nD) : StableHlo.after tail (W m c) (Proc.devRef .tc main_v33) = G0 m c := by
  rw [tail_xs, W_cst, W_cst_1, W_x]; rfl
/-- The host lines end with the gradient's scale. -/
theorem W_G1 (c : Dev nD) : StableHlo.after tail (W m c) (Proc.devRef .tc main_v42) = G1 m c := by
  rw [tail_ys, W_cst_0, W_cst_2, W_y]; rfl
/-- The host lines end with the forward scale's inverse. -/
theorem W_G2 (c : Dev nD) : StableHlo.after tail (W m c) (Proc.devRef .tc main_v52) = G2 m c := by
  rw [tail_xinv, W_cst, W_cst_3, W_x]; rfl
/-- The host lines end with the inverse of the gradient's scale. -/
theorem W_G3 (c : Dev nD) : StableHlo.after tail (W m c) (Proc.devRef .tc main_v62) = G3 m c := by
  rw [tail_yinv, W_cst_0, W_cst_4, W_y]; rfl

/-- Every run ends with the four scales in the result arrays, the arguments unchanged. -/
theorem run : θ_run defs (onTc (τ := τ) (main (F := Ideal))) ⟨m, fun _ => 0, ρ⟩ (fun r => ∀ c : Dev nD,
      r.2.mem ((c.tc : Thread nD τ).loc main_v33) = G0 m c
      ∧ r.2.mem ((c.tc : Thread nD τ).loc main_v42) = G1 m c
      ∧ r.2.mem ((c.tc : Thread nD τ).loc main_v52) = G2 m c
      ∧ r.2.mem ((c.tc : Thread nD τ).loc main_v62) = G3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v33 (Pipeline.mem_restRefs_of main_v33 (by decide) (by decide))).trans (W_G0 m c),
    ((h c).2 main_v42 (Pipeline.mem_restRefs_of main_v42 (by decide) (by decide))).trans (W_G1 m c),
    ((h c).2 main_v52 (Pipeline.mem_restRefs_of main_v52 (by decide) (by decide))).trans (W_G2 m c),
    ((h c).2 main_v62 (Pipeline.mem_restRefs_of main_v62 (by decide) (by decide))).trans (W_G3 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

/-- An array of no axes has one index. -/
theorem s0_eq (x y : S_.Idx) : x = y := funext fun a => a.elim0

/-- The bounds of the largest magnitude of the normalised rows: those of every entry. -/
theorem aX_le (c : Dev nD) (j : S_.Idx) (k : EReal) :
    (aX m c j : EReal) ≤ k ↔ ∀ (q : Fin 2048) (d : Fin 4096), xnMag (X m c q) (Gm m c) d ≤ k := by
  refine (reduce_le (outsAt0 m c 15 h15).1 _ reducesTo_S1x4096_S_d0_1 h_S_ s0_eq (fun _ => bot_f32) j k).trans ?_
  constructor
  · exact fun h q d => (((outs_le m c 15 h15).1 d k).mp (h (ix2 (0 : Fin 1) d))).2 q q.isLt
  · intro h i
    obtain ⟨z, d, rfl⟩ : ∃ (z : Fin 1) (d : Fin 4096), i = ix2 z d := ⟨i 0, i 1, eq_ix2 (n0 := 1) (n1 := 4096) i⟩
    obtain rfl : z = 0 := Subsingleton.elim _ _
    exact ((outs_le m c 15 h15).1 d k).mpr ⟨(mag_nonneg _).trans (h 0 d), fun q _ => h q d⟩

/-- The bounds of the largest magnitude of the gradient: those of every entry. -/
theorem aY_le (c : Dev nD) (j : S_.Idx) (k : EReal) :
    (aY m c j : EReal) ≤ k ↔ ∀ (q : Fin 2048) (o : Fin 16384), mag (DY m c q o) ≤ k := by
  refine (reduce_le (truncf .bf16 (outsAt0 m c 15 h15).2 bitsLt_bf16_f32) _ reducesTo_S1x16384_S_d0_1 h_S_ s0_eq (fun _ => bot_bf16) j k).trans ?_
  constructor
  · exact fun h q d => (((outs_le m c 15 h15).2 d k).mp (h (ix2 (0 : Fin 1) d))).2 q q.isLt
  · intro h i
    obtain ⟨z, d, rfl⟩ : ∃ (z : Fin 1) (d : Fin 16384), i = ix2 z d := ⟨i 0, i 1, eq_ix2 (n0 := 1) (n1 := 16384) i⟩
    obtain rfl : z = 0 := Subsingleton.elim _ _
    exact ((outs_le m c 15 h15).2 d k).mpr ⟨(mag_nonneg _).trans (h 0 d), fun q _ => h q d⟩

/-- The first two axes of an array merged, read at an index (rows of 4096). -/
theorem rows_x {α : Type} (a : S2x1024x4096.Idx → α) (q : Fin 2048) (d : Fin 4096) : shapeCast S2048x4096 a shapeCasts_S2x1024x4096_S2048x4096 (ix2 q d)
    = a (ix3 (⟨q.val / 1024, by omega⟩ : Fin 2) (⟨q.val % 1024, by omega⟩ : Fin 1024) d) := by
  pointwise

/-- The first two axes of an array merged, read at an index (rows of 16384). -/
theorem rows_y {α : Type} (a : S2x1024x16384.Idx → α) (q : Fin 2048) (d : Fin 16384) : shapeCast S2048x16384 a shapeCasts_S2x1024x16384_S2048x16384 (ix2 q d)
    = a (ix3 (⟨q.val / 1024, by omega⟩ : Fin 2) (⟨q.val % 1024, by omega⟩ : Fin 1024) d) := by
  pointwise

/-- A vector as a row, read at an index. -/
theorem row_g {α : Type} (a : S4096.Idx → α) (d : Fin 4096) : shapeCast S1x4096 a shapeCasts_S4096_S1x4096 (ix2 (0 : Fin 1) d) = a (ix1 d) := by
  pointwise

/-- A row of `x` is one of the argument's. -/
theorem X_apply (c : Dev nD) (q : Fin 2048) (d : Fin 4096) : X m c q d
    = (m ((c.tc : Thread nD τ).loc main_arg0) : FVec Ideal S2x1024x4096 .bf16) (ix3 (⟨q.val / 1024, by omega⟩ : Fin 2) (⟨q.val % 1024, by omega⟩ : Fin 1024) d) :=
  rows_x (m ((c.tc : Thread nD τ).loc main_arg0) : FVec Ideal S2x1024x4096 .bf16) q d

/-- A row of the gradient is one of the argument's. -/
theorem DY_apply (c : Dev nD) (q : Fin 2048) (d : Fin 16384) : DY m c q d
    = (m ((c.tc : Thread nD τ).loc main_arg2) : FVec Ideal S2x1024x16384 .bf16) (ix3 (⟨q.val / 1024, by omega⟩ : Fin 2) (⟨q.val % 1024, by omega⟩ : Fin 1024) d) :=
  rows_y (m ((c.tc : Thread nD τ).loc main_arg2) : FVec Ideal S2x1024x16384 .bf16) q d

/-- The weights are the argument's. -/
theorem Gm_apply (c : Dev nD) (d : Fin 4096) : Gm m c d = (m ((c.tc : Thread nD τ).loc main_arg1) : FVec Ideal S4096 .f32) (ix1 d) :=
  row_g (m ((c.tc : Thread nD τ).loc main_arg1) : FVec Ideal S4096 .f32) d

end Cert.StatsIdeal.Hand

end
-- ==== Proof.StatsReferenceValue.lean ====
/-
  The scales' reference: its four results as the exponent and the power of two of the two largest magnitudes, and what
  bounds those.
-/
module

public import proofs.«01_k».proof.Proof.Gen.StatsReferenceIdeal.Run
public import proofs.«01_k».proof.Proof.StatsTail
public import proofs.«01_k».proof.Proof.StatsMath
public import Idealize.ShloMosaic.Lib.Pointwise

@[expose] public section

set_option maxRecDepth 16384

noncomputable section

namespace Cert.StatsReferenceIdeal.Hand

open Cert.StatsReferenceIdeal Cert.StatsReferenceIdeal.Gen Idealize.ShloMosaic Idealize.ShloMosaic.TcCoe Idealize.SL.Sem
open Idealize.ShloMosaic.Pointwise
open Cert.DgradMath Cert.StatsMath
open Cert.StatsIdeal.Hand (powOf expoX expoY)
open scoped BigOperators

/-- The magnitudes of the normalised rows times the weights. -/
def magX (x : FVec Ideal S2x1024x4096 .bf16) (g : FVec Ideal S4096 .f32) : FVec Ideal S2x1024x4096 .f32 :=
  Host.absf (mulf (mulf (extf .f32 x bitsLt_bf16_f32) (broadcastInDim S2x1024x4096 ![0, 1, 2] bcast_S2x1024x1_S2x1024x4096_0_1_2
    (Host.rsqrt (addf (Host.divf (broadcastInDim S2x1024x1 ![0, 1] bcast_S2x1024_S2x1024x1_0_1
      (Host.reduceAdd (mulf (extf .f32 x bitsLt_bf16_f32) (extf .f32 x bitsLt_bf16_f32)) (constant S_ .f32 0x00000000#32) reducesTo_S2x1024x4096_S2x1024_d2 h_S_))
      (broadcastInDim S2x1024x1 ![] bcast_S_S2x1024x1 (constant S_ .f32 0x45800000#32)))
      (broadcastInDim S2x1024x1 ![] bcast_S_S2x1024x1 (constant S_ .f32 0x358637BD#32))))))
    (broadcastInDim S2x1024x4096 ![0, 1, 2] bcast_S1x1x4096_S2x1024x4096_0_1_2 (broadcastInDim S1x1x4096 ![2] bcast_S4096_S1x1x4096_2 g)))

/-- The largest of them. -/
def aX (x : FVec Ideal S2x1024x4096 .bf16) (g : FVec Ideal S4096 .f32) : FVec Ideal S_ .f32 :=
  Host.reduce FloatOps.maximumf (magX x g) (constant S_ .f32 0xFF800000#32) reducesTo_S2x1024x4096_S_d0_1_2 h_S_

/-- The largest magnitude of the gradient. -/
def aY (y : FVec Ideal S2x1024x16384 .bf16) : FVec Ideal S_ .bf16 :=
  Host.reduce FloatOps.maximumf (Host.absf y) (constant S_ .bf16 0xFF80#16) reducesTo_S2x1024x16384_S_d0_1_2 h_S_

/-- One magnitude: its row normalised, times its weight. -/
theorem magX_apply (x : FVec Ideal S2x1024x4096 .bf16) (g : FVec Ideal S4096 .f32) (b : Fin 2) (s : Fin 1024) (d : Fin 4096) :
    (magX x g (ix3 b s d) : EReal) = xnMag (fun j => x (ix3 b s j)) (fun j => g (ix1 j)) d := by
  unfold xnMag xhat rInv mag
  pointwise [magX]

/-- An array of no axes has one index. -/
theorem s0_eq (x y : S_.Idx) : x = y := funext fun a => a.elim0

/-- The bounds of the largest magnitude of the normalised rows: those of every entry. -/
theorem aX_le (x : FVec Ideal S2x1024x4096 .bf16) (g : FVec Ideal S4096 .f32) (j : S_.Idx) (k : EReal) :
    (aX x g j : EReal) ≤ k ↔ ∀ (b : Fin 2) (s : Fin 1024) (d : Fin 4096), xnMag (fun j => x (ix3 b s j)) (fun j => g (ix1 j)) d ≤ k := by
  refine (reduce_le (magX x g) _ reducesTo_S2x1024x4096_S_d0_1_2 h_S_ s0_eq (fun _ => bot_f32) j k).trans ?_
  constructor
  · exact fun h b s d => (magX_apply x g b s d).symm.le.trans (h (ix3 b s d))
  · intro h i
    obtain ⟨b, s, d, rfl⟩ : ∃ (b : Fin 2) (s : Fin 1024) (d : Fin 4096), i = ix3 b s d := ⟨i 0, i 1, i 2, eq_ix3 (n0 := 2) (n1 := 1024) (n2 := 4096) i⟩
    exact (magX_apply x g b s d).le.trans (h b s d)

/-- The bounds of the largest magnitude of the gradient: those of every entry. -/
theorem aY_le (y : FVec Ideal S2x1024x16384 .bf16) (j : S_.Idx) (k : EReal) :
    (aY y j : EReal) ≤ k ↔ ∀ (b : Fin 2) (s : Fin 1024) (d : Fin 16384), mag (y (ix3 b s d)) ≤ k := by
  refine (reduce_le (Host.absf y) _ reducesTo_S2x1024x16384_S_d0_1_2 h_S_ s0_eq (fun _ => bot_bf16) j k).trans ?_
  constructor
  · exact fun h b s d => h (ix3 b s d)
  · intro h i
    obtain ⟨b, s, d, rfl⟩ : ∃ (b : Fin 2) (s : Fin 1024) (d : Fin 16384), i = ix3 b s d := ⟨i 0, i 1, i 2, eq_ix3 (n0 := 2) (n1 := 1024) (n2 := 16384) i⟩
    exact h b s d

/-- The powers of two a forward scale's exponent is counted among. -/
abbrev tblX : FVec Ideal S277 .f32 := fun i => FloatOps.ofBits .f32 (lit0 (S277.rowMajor i))
/-- The powers of two the gradient's scale's exponent is counted among. -/
abbrev tblY : FVec Ideal S277 .f32 := fun i => FloatOps.ofBits .f32 (lit3 (S277.rowMajor i))
/-- The powers of two the forward scale is read from. -/
abbrev powX : FVec Ideal S298 .f32 := fun i => FloatOps.ofBits .f32 (lit1 (S298.rowMajor i))
/-- The powers of two the gradient's scale is read from. -/
abbrev powY : FVec Ideal S298 .f32 := fun i => FloatOps.ofBits .f32 (lit4 (S298.rowMajor i))
/-- The powers of two the forward scale's inverse is read from. -/
abbrev powXi : FVec Ideal S298 .f32 := fun i => FloatOps.ofBits .f32 (lit2 (S298.rowMajor i))
/-- The powers of two the inverse of the gradient's scale is read from. -/
abbrev powYi : FVec Ideal S298 .f32 := fun i => FloatOps.ofBits .f32 (lit5 (S298.rowMajor i))

variable (m : (ℓ : Loc nD τ sig) → Buf (Elt Ideal) ℓ) (ρ : Dev nD → PrngReg)

/-- The largest magnitude of the normalised rows of the arguments. -/
abbrev mX (c : Dev nD) : FVec Ideal S_ .f32 := aX (m ((c.tc : Thread nD τ).loc main_arg0)) (m ((c.tc : Thread nD τ).loc main_arg1))
/-- The largest magnitude of the gradient among the arguments. -/
abbrev mY (c : Dev nD) : FVec Ideal S_ .bf16 := aY (m ((c.tc : Thread nD τ).loc main_arg2))

set_option maxHeartbeats 2000000 in
/-- Every run ends with the four scales in the result arrays, the arguments unchanged. -/
theorem run : θ_run defs (onTc (τ := τ) (main (F := Ideal))) ⟨m, fun _ => 0, ρ⟩ (fun r => ∀ c : Dev nD,
      r.2.mem ((c.tc : Thread nD τ).loc main_v33) = powOf powX (expoX tblX (mX m c))
      ∧ r.2.mem ((c.tc : Thread nD τ).loc main_v65) = powOf powY (expoY tblY (mY m c))
      ∧ r.2.mem ((c.tc : Thread nD τ).loc main_v44) = powOf powXi (negi (expoX tblX (mX m c)))
      ∧ r.2.mem ((c.tc : Thread nD τ).loc main_v76) = powOf powYi (negi (expoY tblY (mY m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans rfl, (h c).2.1.trans rfl, (h c).2.2.1.trans rfl, (h c).2.2.2.1.trans rfl, (h c).2.2.2.2⟩)
    (Cert.StatsReferenceIdeal.Value.run m ρ)

end Cert.StatsReferenceIdeal.Hand

end
-- ==== Proof.StatsAlgebra.lean ====
/-
  The equation of the scales: on the same arguments the statistics kernel and its reference end with the same four results.
-/
module

public import proofs.«01_k».proof.Defs
public import proofs.«01_k».proof.Proof.StatsValue
public import proofs.«01_k».proof.Proof.StatsReferenceValue
public import proofs.«01_k».proof.Proof.Gen.StatsIdeal
public import proofs.«01_k».proof.Proof.Gen.StatsReferenceIdeal
public import Idealize.ShloMosaic.Lib.Quiescent

@[expose] public section

set_option maxRecDepth 16384

noncomputable section

namespace Cert.Proof.StatsAlgebra

open Idealize.ShloMosaic Idealize.ShloMosaic.TcCoe Idealize.SL.Sem
open Idealize.ShloMosaic.Pointwise
open Cert.DgradMath Cert.StatsMath

/-- A statement of every merged row is one of every pair of leading indices. -/
theorem rows_iff (P : Fin 2 → Fin 1024 → Prop) :
    (∀ q : Fin 2048, P ⟨q.val / 1024, by omega⟩ ⟨q.val % 1024, by omega⟩) ↔ ∀ b s, P b s := by
  constructor
  · intro h b s
    have hb := b.isLt
    have hs := s.isLt
    have e := h ⟨1024 * b.val + s.val, by omega⟩
    have e0 : (⟨(1024 * b.val + s.val) / 1024, by omega⟩ : Fin 2) = b := Fin.ext (by show (1024 * b.val + s.val) / 1024 = b.val; omega)
    have e1 : (⟨(1024 * b.val + s.val) % 1024, by omega⟩ : Fin 1024) = s := Fin.ext (by show (1024 * b.val + s.val) % 1024 = s.val; omega)
    exact (congrArg₂ P e0 e1).mp e
  · exact fun h q => h _ _

section

variable (m : (ℓ : Loc Cert.StatsIdeal.nD Cert.StatsIdeal.τ Cert.StatsIdeal.sig) → Buf (Elt Ideal) ℓ)
  (m' : (ℓ : Loc Cert.StatsReferenceIdeal.nD Cert.StatsReferenceIdeal.τ Cert.StatsReferenceIdeal.sig) → Buf (Elt Ideal) ℓ)
  (c : Dev Cert.StatsIdeal.nD)

/-- The two programs are launched on the same arguments. -/
abbrev Agree : Prop :=
  m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)
      ∧ m' ((c.tc : Thread Cert.StatsReferenceIdeal.nD Cert.StatsReferenceIdeal.τ).loc Cert.StatsReferenceIdeal.main_arg1) = m ((c.tc : Thread Cert.StatsIdeal.nD Cert.StatsIdeal.τ).loc Cert.StatsIdeal.main_arg1)
      ∧ m' ((c.tc : Thread Cert.StatsReferenceIdeal.nD Cert.StatsReferenceIdeal.τ).loc Cert.StatsReferenceIdeal.main_arg2) = m ((c.tc : Thread Cert.StatsIdeal.nD Cert.StatsIdeal.τ).loc Cert.StatsIdeal.main_arg2)

variable (hag : Agree m m' c)

include hag

/-- The largest magnitudes of the normalised rows agree. -/
theorem aX_eq : Cert.StatsReferenceIdeal.Hand.mX m' c = Cert.StatsIdeal.Hand.aX m c := by
  funext j
  refine eq_of_bounds fun k => ?_
  refine (Cert.StatsReferenceIdeal.Hand.aX_le _ _ j k).trans (Iff.trans ?_ (Cert.StatsIdeal.Hand.aX_le m c j k).symm)
  refine (rows_iff fun b s => ∀ d : Fin 4096, xnMag (fun j => m' ((c.tc : Thread Cert.StatsReferenceIdeal.nD Cert.StatsReferenceIdeal.τ).loc Cert.StatsReferenceIdeal.main_arg0) (ix3 b s j)) (fun j => m' ((c.tc : Thread Cert.StatsReferenceIdeal.nD Cert.StatsReferenceIdeal.τ).loc Cert.StatsReferenceIdeal.main_arg1) (ix1 j)) d ≤ k).symm.trans ?_
  refine forall_congr' fun q => forall_congr' fun d => ?_
  rw [show Cert.StatsIdeal.Hand.X m c q = _ from funext fun d => Cert.StatsIdeal.Hand.X_apply m c q d,
    show Cert.StatsIdeal.Hand.Gm m c = _ from funext fun d => Cert.StatsIdeal.Hand.Gm_apply m c d, ← hag.1, ← hag.2.1]

/-- The largest magnitudes of the gradient agree. -/
theorem aY_eq : Cert.StatsReferenceIdeal.Hand.mY m' c = Cert.StatsIdeal.Hand.aY m c := by
  funext j
  refine eq_of_bounds fun k => ?_
  refine (Cert.StatsReferenceIdeal.Hand.aY_le _ j k).trans (Iff.trans ?_ (Cert.StatsIdeal.Hand.aY_le m c j k).symm)
  refine (rows_iff fun b s => ∀ d : Fin 16384, mag (m' ((c.tc : Thread Cert.StatsReferenceIdeal.nD Cert.StatsReferenceIdeal.τ).loc Cert.StatsReferenceIdeal.main_arg2) (ix3 b s d)) ≤ k).symm.trans ?_
  refine forall_congr' fun q => forall_congr' fun d => ?_
  rw [Cert.StatsIdeal.Hand.DY_apply m c q d, ← hag.2.2]

end

/-- The two programs carry the same bit patterns for the first table of powers. -/
theorem lit_tblX : Cert.StatsReferenceIdeal.lit0 = Cert.StatsIdeal.lit0 := rfl
/-- The two programs carry the same bit patterns for the second table of powers. -/
theorem lit_tblY : Cert.StatsReferenceIdeal.lit3 = Cert.StatsIdeal.lit1 := rfl
/-- The two programs carry the same bit patterns for the forward scale's powers. -/
theorem lit_powX : Cert.StatsReferenceIdeal.lit1 = Cert.StatsIdeal.lit2 := rfl
/-- The two programs carry the same bit patterns for the gradient's scale's powers. -/
theorem lit_powY : Cert.StatsReferenceIdeal.lit4 = Cert.StatsIdeal.lit3 := rfl
/-- The two programs carry the same bit patterns for the forward scale's inverse's powers. -/
theorem lit_powXi : Cert.StatsReferenceIdeal.lit2 = Cert.StatsIdeal.lit4 := rfl
/-- The two programs carry the same bit patterns for the powers for the inverse of the gradient's scale. -/
theorem lit_powYi : Cert.StatsReferenceIdeal.lit5 = Cert.StatsIdeal.lit5 := rfl

open Cert.StatsIdeal.Hand (powOf expoX expoY)

/-- A table of 277 bit patterns read as reals, from an equal table. -/
theorem tbl_congr {a b : Fin Cert.StatsIdeal.S277.numel → BitVec 32} (h : a = b) :
    (fun i => FloatOps.ofBits (F := Ideal) .f32 (a (Cert.StatsIdeal.S277.rowMajor i)) : FVec Ideal Cert.StatsIdeal.S277 .f32)
      = fun i => FloatOps.ofBits (F := Ideal) .f32 (b (Cert.StatsIdeal.S277.rowMajor i)) := by
  rw [h]

/-- A table of 298 bit patterns read as reals, from an equal table. -/
theorem pwr_congr {a b : Fin Cert.StatsIdeal.S298.numel → BitVec 32} (h : a = b) :
    (fun i => FloatOps.ofBits (F := Ideal) .f32 (a (Cert.StatsIdeal.S298.rowMajor i)) : FVec Ideal Cert.StatsIdeal.S298 .f32)
      = fun i => FloatOps.ofBits (F := Ideal) .f32 (b (Cert.StatsIdeal.S298.rowMajor i)) := by
  rw [h]

/-- The two programs carry the same reals for the first table of powers. -/
theorem eq_tblX : Cert.StatsReferenceIdeal.Hand.tblX = Cert.StatsIdeal.Hand.tblX := tbl_congr lit_tblX
/-- The two programs carry the same reals for the second table of powers. -/
theorem eq_tblY : Cert.StatsReferenceIdeal.Hand.tblY = Cert.StatsIdeal.Hand.tblY := tbl_congr lit_tblY
/-- The two programs carry the same reals for the forward scale's powers. -/
theorem eq_powX : Cert.StatsReferenceIdeal.Hand.powX = Cert.StatsIdeal.Hand.powX := pwr_congr lit_powX
/-- The two programs carry the same reals for the gradient's scale's powers. -/
theorem eq_powY : Cert.StatsReferenceIdeal.Hand.powY = Cert.StatsIdeal.Hand.powY := pwr_congr lit_powY
/-- The two programs carry the same reals for the forward scale's inverse's powers. -/
theorem eq_powXi : Cert.StatsReferenceIdeal.Hand.powXi = Cert.StatsIdeal.Hand.powXi := pwr_congr lit_powXi
/-- The two programs carry the same reals for the powers for the inverse of the gradient's scale. -/
theorem eq_powYi : Cert.StatsReferenceIdeal.Hand.powYi = Cert.StatsIdeal.Hand.powYi := pwr_congr lit_powYi

section

variable (m : (ℓ : Loc Cert.StatsIdeal.nD Cert.StatsIdeal.τ Cert.StatsIdeal.sig) → Buf (Elt Ideal) ℓ)
  (m' : (ℓ : Loc Cert.StatsReferenceIdeal.nD Cert.StatsReferenceIdeal.τ Cert.StatsReferenceIdeal.sig) → Buf (Elt Ideal) ℓ)
  (c : Dev Cert.StatsIdeal.nD) (hag : Agree m m' c)

include hag

/-- The forward scales agree. -/
theorem r0_eq : powOf Cert.StatsReferenceIdeal.Hand.powX (expoX Cert.StatsReferenceIdeal.Hand.tblX (Cert.StatsReferenceIdeal.Hand.mX m' c)) = Cert.StatsIdeal.Hand.G0 m c := by
  rw [eq_powX, eq_tblX, aX_eq m m' c hag]
  rfl

/-- The gradient's scales agree. -/
theorem r1_eq : powOf Cert.StatsReferenceIdeal.Hand.powY (expoY Cert.StatsReferenceIdeal.Hand.tblY (Cert.StatsReferenceIdeal.Hand.mY m' c)) = Cert.StatsIdeal.Hand.G1 m c := by
  rw [eq_powY, eq_tblY, aY_eq m m' c hag]
  rfl

/-- The forward scale's inverses agree. -/
theorem r2_eq : powOf Cert.StatsReferenceIdeal.Hand.powXi (negi (expoX Cert.StatsReferenceIdeal.Hand.tblX (Cert.StatsReferenceIdeal.Hand.mX m' c))) = Cert.StatsIdeal.Hand.G2 m c := by
  rw [eq_powXi, eq_tblX, aX_eq m m' c hag]
  rfl

/-- The inverses of the gradient's scale agree. -/
theorem r3_eq : powOf Cert.StatsReferenceIdeal.Hand.powYi (negi (expoY Cert.StatsReferenceIdeal.Hand.tblY (Cert.StatsReferenceIdeal.Hand.mY m' c))) = Cert.StatsIdeal.Hand.G3 m c := by
  rw [eq_powYi, eq_tblY, aY_eq m m' c hag]
  rfl

end

/-- The statistics kernel computes what its reference computes. -/
theorem algebraic [hP : Cert.StatsIdeal.Facts] [hR : Cert.StatsReferenceIdeal.Facts] :
    Cert.algebraic_StatsIdeal_StatsReferenceIdeal := by
  intro m ρ m' ρ' _ hag
  refine ⟨fun c => Cert.StatsIdeal.Hand.G0 m c, fun c => Cert.StatsIdeal.Hand.G1 m c, fun c => Cert.StatsIdeal.Hand.G2 m c,
    fun c => Cert.StatsIdeal.Hand.G3 m c, ?_, ?_⟩
  · exact Cert.StatsIdeal.Hand.run m ρ
  · exact (θ_run Cert.StatsReferenceIdeal.defs _ _).mono (fun _ h c =>
      ⟨(h c).1.trans (r0_eq m m' c (hag c)), (h c).2.1.trans (r1_eq m m' c (hag c)),
      (h c).2.2.1.trans (r2_eq m m' c (hag c)), (h c).2.2.2.1.trans (r3_eq m m' c (hag c)), (h c).2.2.2.2⟩)
      (Cert.StatsReferenceIdeal.Hand.run m' ρ')

/-- The reference ends at rest with its arguments unchanged. -/
theorem frame_reference [hR : Cert.StatsReferenceIdeal.Facts] : Cert.quiescent_StatsReferenceIdeal := fun m ρ _ =>
  (θ_run Cert.StatsReferenceIdeal.defs _ _).mono (fun r h => ⟨fun c => (h c).2.2.2.2, Idealize.ShloMosaic.sem_eq_zero_of_no_sems (by decide) r.2⟩)
    (Cert.StatsReferenceIdeal.Value.run (F := Ideal) m ρ)

end Cert.Proof.StatsAlgebra

end
-- ==== Proof.WgradBlocks.lean ====
/-
  What one grid point of the weight-gradient kernel writes, and what the whole result array holds: entry
  `(d, o)` is the sum over all 2048 rows of `xn_codes[r, d] * dy_codes[r, o]`, times the product of the two scales.
-/
module

public import proofs.«01_k».proof.Proof.Gen.WgradIdeal.Value
public import Idealize.ShloMosaic.Lib.Pointwise

@[expose] public section

set_option maxRecDepth 16384

noncomputable section

namespace Cert.WgradIdeal.Hand

open Cert.WgradIdeal Cert.WgradIdeal.Gen Idealize.ShloMosaic Idealize.ShloMosaic.TcCoe Idealize.SL.Sem
open Idealize.ShloMosaic.Pipeline (Dat)
open Idealize.ShloMosaic.Pointwise
open scoped BigOperators

variable (m : (ℓ : Loc nD τ sig) → Buf (Elt Ideal) ℓ)

/-- An array of one entry has one index. -/
theorem s1_eq (x y : S1.Idx) : x = y :=
  funext fun a => match a with
    | ⟨0, _⟩ => Subsingleton.elim (α := Fin 1) _ _

/-- Case A's one store covers the block: it leaves the payload of the two code blocks and the scale. -/
theorem out_eq (c : Dev nD) (i : grid0.Coords) (arg2 : Memref sig .tc .smem S1 .f32) (harg2 : arg2.IsWhole)
    (arg3 : Memref sig .tc .vmem S2048x1024 .fp8e4m3) (harg3 : arg3.IsWhole)
    (arg4 : Memref sig .tc .vmem S2048x1024 .fp8e5m2) (harg4 : arg4.IsWhole)
    (arg5 : Memref sig .tc .vmem S1024x1024 .f32) (harg5 : arg5.IsWhole)
    (x0 : Vec Ideal S1 .f32) (x1 : Vec Ideal S2048x1024 .fp8e4m3) (x2 : Vec Ideal S2048x1024 .fp8e5m2) :
    out0_A_3 (F := Ideal) c i arg2 harg2 arg3 harg3 arg4 harg4 arg5 harg5 x0 x1 x2
      = k0_pay1 x1 x2 (x0 (ix1 0)) := by
  have hz : (![0, 0] : Fin 2 → Nat) = fun _ => 0 := funext fun a => by fin_cases a <;> rfl
  have hz1 : (![0] : Fin 1 → Nat) = fun _ => 0 := funext fun a => by fin_cases a <;> rfl
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero hz]
  simp only [View.readAt_eq_ld, harg3.read_unread, harg4.read_unread, harg2.read_unread,
    View.ld_unit_zero (S := S2048x1024) hz, View.ld_unit_zero (S := S1) hz1]
  exact congrArg (k0_pay1 x1 x2) (congrArg x0 (s1_eq _ _))

/-- The payload at an entry: the product's sum over all 2048 rows, times the scale. -/
theorem pay_apply (v0 : Vec Ideal S2048x1024 .fp8e4m3) (v1 : Vec Ideal S2048x1024 .fp8e5m2) (s : Elt Ideal .f32)
    (a b : Fin 1024) :
    k0_pay1 (F := Ideal) v0 v1 s (ix2 a b) = (∑ k : Fin 2048, v0 (ix2 k a) * v1 (ix2 k b)) * s := by
  pointwise [k0_pay1]

/-- The weight gradient of the codes `X`, `Y` at the scale `s`: every entry a full product over the rows. -/
def dwOf (X : S2048x4096.Idx → EReal) (Y : S2048x16384.Idx → EReal) (s : EReal) : S4096x16384.Idx → EReal :=
  fun i => (∑ k : Fin 2048, X (ix2 k (show Fin 4096 from i 0)) * Y (ix2 k (show Fin 16384 from i 1))) * s

/-- The index maps at point `t`: the result's block is `(t % 4, t / 4)`, the operands' are its column and its row. -/
theorem idx_all : ∀ t : Fin cfg0.N, win0_3.index t (0 : Fin 2) = t.val % 4 ∧ win0_3.index t (1 : Fin 2) = t.val / 4
    ∧ win0_1.index t (0 : Fin 2) = 0 ∧ win0_1.index t (1 : Fin 2) = t.val % 4
    ∧ win0_2.index t (0 : Fin 2) = 0 ∧ win0_2.index t (1 : Fin 2) = t.val / 4 :=
  (by decide +kernel : ∀ t : Fin grid0.N, win0_3.index t (0 : Fin 2) = t.val % 4 ∧ win0_3.index t (1 : Fin 2) = t.val / 4
    ∧ win0_1.index t (0 : Fin 2) = 0 ∧ win0_1.index t (1 : Fin 2) = t.val % 4
    ∧ win0_2.index t (0 : Fin 2) = 0 ∧ win0_2.index t (1 : Fin 2) = t.val / 4)

/-- The block of `xn_codes` at point `t`: all rows, columns from `1024 * (t % 4)`. -/
theorem iblk1 (c : Dev nD) (t : Fin cfg0.N) (k : Fin 2048) (a : Fin 1024) (h : 1024 * (t.val % 4) + a.val < 4096) :
    iblk m c 1 t (ix2 k a) = m ((c : Thread nD τ).loc main_arg0) (ix2 k (⟨1024 * (t.val % 4) + a.val, h⟩ : Fin 4096)) := by
  obtain ⟨_, _, h0, h1, _, _⟩ := idx_all t
  unfold iblk
  rw [View.read_apply]
  show V m c main_arg0 _ = _
  rw [V_main_arg0]
  refine congrArg _ ?_
  funext x
  apply Fin.ext
  match x with
  | ⟨0, _⟩ => show win0_1.index t (0 : Fin 2) * 2048 + 1 * k.val = k.val; rw [h0]; omega
  | ⟨1, _⟩ => show win0_1.index t (1 : Fin 2) * 1024 + 1 * a.val = 1024 * (t.val % 4) + a.val; rw [h1]; omega

/-- The block of `dy_codes` at point `t`: all rows, columns from `1024 * (t / 4)`. -/
theorem iblk2 (c : Dev nD) (t : Fin cfg0.N) (k : Fin 2048) (b : Fin 1024) (h : 1024 * (t.val / 4) + b.val < 16384) :
    iblk m c 2 t (ix2 k b) = m ((c : Thread nD τ).loc main_arg1) (ix2 k (⟨1024 * (t.val / 4) + b.val, h⟩ : Fin 16384)) := by
  obtain ⟨_, _, _, _, h0, h1⟩ := idx_all t
  unfold iblk
  rw [View.read_apply]
  show V m c main_arg1 _ = _
  rw [V_main_arg1]
  refine congrArg _ ?_
  funext x
  apply Fin.ext
  match x with
  | ⟨0, _⟩ => show win0_2.index t (0 : Fin 2) * 2048 + 1 * k.val = k.val; rw [h0]; omega
  | ⟨1, _⟩ => show win0_2.index t (1 : Fin 2) * 1024 + 1 * b.val = 1024 * (t.val / 4) + b.val; rw [h1]; omega

/-- The product of the two scales. -/
def scale (c : Dev nD) : EReal :=
  (show EReal from m ((c : Thread nD τ).loc main_arg2) (ix1 (0 : Fin 1))) * (show EReal from m ((c : Thread nD τ).loc main_arg3) (ix1 (0 : Fin 1)))

/-- The scale the host multiplied before the call. -/
theorem V_scale (c : Dev nD) : V m c main_v0 (ix1 (0 : Fin 1))
    = scale m c := by
  rfl

/-- The scale window holds it at every point. -/
theorem iblk0 (c : Dev nD) (t : Fin cfg0.N) : iblk m c 0 t (ix1 (0 : Fin 1))
    = scale m c := by
  rw [← V_scale]
  unfold iblk
  rw [View.read_apply]
  show V m c main_v0 _ = _
  exact congrArg _ (s1_eq _ _)

/-- The whole weight gradient the kernel is to leave, from the argument arrays as launched. -/
abbrev G (c : Dev nD) : S4096x16384.Idx → EReal :=
  dwOf (m ((c : Thread nD τ).loc main_arg0)) (m ((c : Thread nD τ).loc main_arg1))
    (scale m c)

/-- The payload of the blocks at point `t`, at an entry, is the whole gradient at that entry of the block. -/
theorem entry_eq (c : Dev nD) (t : Fin cfg0.N) (a b : Fin 1024) (ha : 1024 * (t.val % 4) + a.val < 4096)
    (hb : 1024 * (t.val / 4) + b.val < 16384) :
    k0_pay1 (F := Ideal) (iblk m c 1 t) (iblk m c 2 t) (iblk m c 0 t (ix1 (0 : Fin 1))) (ix2 a b)
      = G m c (ix2 (⟨1024 * (t.val % 4) + a.val, ha⟩ : Fin 4096) (⟨1024 * (t.val / 4) + b.val, hb⟩ : Fin 16384)) := by
  rw [iblk0]
  refine (pay_apply _ _ _ a b).trans ?_
  show _ = dwOf _ _ _ _
  unfold dwOf
  refine congrArg (· * scale m c) (Finset.sum_congr rfl fun k _ => ?_)
  exact congrArg₂ (fun x y : EReal => x * y) (iblk1 m c t k a ha) (iblk2 m c t k b hb)

/-- What point `t` writes back is its block of the whole gradient. -/
theorem flushed_eq (c : Dev nD) (t : Fin cfg0.N) :
    (dats m 0 c).flushed 3 t = ((cfg0.win 3).blk t).view.read (Elt Ideal) (G m c) := by
  rw [Cert.WgradIdeal.Value.flushed3_A, out_eq]
  funext j
  have ht : t.val < 64 := t.isLt
  obtain ⟨h0, h1, _, _, _, _⟩ := idx_all t
  rw [View.read_apply]
  have ha : 1024 * (t.val % 4) + (j 0).val < 4096 := by have : (j 0).val < 1024 := (j 0).isLt; omega
  have hb : 1024 * (t.val / 4) + (j 1).val < 16384 := by have : (j 1).val < 1024 := (j 1).isLt; omega
  have hi : ((cfg0.win 3).blk t).view.emb j = ix2 (⟨1024 * (t.val % 4) + (j 0).val, ha⟩ : Fin 4096) (⟨1024 * (t.val / 4) + (j 1).val, hb⟩ : Fin 16384) := by
    funext x
    apply Fin.ext
    match x with
    | ⟨0, _⟩ => show win0_3.index t (0 : Fin 2) * 1024 + 1 * (j 0).val = 1024 * (t.val % 4) + (j 0).val; rw [h0]; omega
    | ⟨1, _⟩ => show win0_3.index t (1 : Fin 2) * 1024 + 1 * (j 1).val = 1024 * (t.val / 4) + (j 1).val; rw [h1]; omega
  refine (congrArg (k0_pay1 (F := Ideal) (iblk m c 1 t) (iblk m c 2 t) (iblk m c 0 t (ix1 0)))
    (eq_ix2 (n0 := 1024) (n1 := 1024) j)).trans ?_
  exact (entry_eq m c t _ _ ha hb).trans (congrArg (G m c) hi.symm)

/-- Every entry of the result is in some point's block. -/
theorem covered (i : S4096x16384.Idx) : ∃ t : Fin cfg0.N, (cfg0.win 3).flush t = true ∧ i ∈ ((cfg0.win 3).blk t).view.set := by
  have h0 : (i 0).val < 4096 := (i 0).isLt
  have h1 : (i 1).val < 16384 := (i 1).isLt
  let t : Fin cfg0.N := ⟨4 * ((i 1).val / 1024) + (i 0).val / 1024, show _ < 64 by omega⟩
  have htv : t.val = 4 * ((i 1).val / 1024) + (i 0).val / 1024 := rfl
  refine ⟨t, flush0_3 t, ?_⟩
  obtain ⟨e0, e1, _, _, _, _⟩ := idx_all t
  show i ∈ ((View.whole main_v1).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0, htv]; omega
  | ⟨1, _⟩ =>
    show win0_3.index t (1 : Fin 2) * 1024 ≤ (i 1).val ∧ (i 1).val < win0_3.index t (1 : Fin 2) * 1024 + 1024
    rw [e1, htv]; omega

/-- The result array after the run is the whole weight gradient. -/
theorem final (c : Dev nD) : (dats m 0 c).arrAt 3 cfg0.N = G m c :=
  (dats m 0 c).arrAt_eq_of_cover 3 (G m c) (fun t _ => flushed_eq m c t) covered

end Cert.WgradIdeal.Hand

end
-- ==== Proof.WgradReferenceValue.lean ====
/-
  What the weight-gradient reference leaves in its result array: the same sum over the rows times the two scales.
-/
module

public import proofs.«01_k».proof.Proof.Gen.WgradReferenceIdeal.Value
public import Idealize.ShloMosaic.Lib.Pointwise

@[expose] public section

set_option maxRecDepth 16384

noncomputable section

namespace Cert.WgradReferenceIdeal.Hand

open Cert.WgradReferenceIdeal Cert.WgradReferenceIdeal.Gen Idealize.ShloMosaic Idealize.ShloMosaic.TcCoe Idealize.SL.Sem
open Idealize.ShloMosaic.Pipeline (Dat)
open Idealize.ShloMosaic.Pointwise
open scoped BigOperators

variable (m : (ℓ : Loc nD τ sig) → Buf (Elt Ideal) ℓ)

/-- The one grid point. -/
def t₀ : Fin cfg0.N := ⟨0, by decide⟩

/-- An array of one entry has one index. -/
theorem s1_eq (x y : S1.Idx) : x = y :=
  funext fun a => match a with
    | ⟨0, _⟩ => Subsingleton.elim (α := Fin 1) _ _

/-- The body's one store covers the array: it leaves the payload of the codes and the two scales. -/
theorem out_eq (c : Dev nD) (arg0 : Memref sig .tc .vmem S2048x4096 .fp8e4m3) (harg0 : arg0.IsWhole)
    (arg1 : Memref sig .tc .vmem S2048x16384 .fp8e5m2) (harg1 : arg1.IsWhole)
    (arg2 : Memref sig .tc .smem S1 .f32) (harg2 : arg2.IsWhole) (arg3 : Memref sig .tc .smem S1 .f32) (harg3 : arg3.IsWhole)
    (arg4 : Memref sig .tc .vmem S4096x16384 .f32) (harg4 : arg4.IsWhole)
    (x0 : Vec Ideal S2048x4096 .fp8e4m3) (x1 : Vec Ideal S2048x16384 .fp8e5m2) (x2 x3 : Vec Ideal S1 .f32) :
    out0_A_4 (F := Ideal) c arg0 harg0 arg1 harg1 arg2 harg2 arg3 harg3 arg4 harg4 x0 x1 x2 x3
      = k0_pay1 x0 x1 (x2 (ix1 0)) (x3 (ix1 0)) := by
  have hz : (![0, 0] : Fin 2 → Nat) = fun _ => 0 := funext fun a => by fin_cases a <;> rfl
  unfold out0_A_4
  rw [View.read_writes_eq_canon _ _ _ (cover0_A_4 c arg0 harg0 arg1 harg1 arg2 harg2 arg3 harg3 arg4 harg4 x0 x1 x2 x3)]
  unfold kernelRun0_A
  dsimp only
  sl_unfold_words
  rw [View.canon_unit_zero hz]
  simp only [View.readAt_eq_ld, harg0.read_unread, harg1.read_unread, harg2.read_unread, harg3.read_unread,
    View.ld_unit_zero (S := S2048x4096) hz, View.ld_unit_zero (S := S2048x16384) hz]
  exact congrArg₂ (k0_pay1 x0 x1) (congrArg x2 (s1_eq _ _))
    (congrArg x3 (s1_eq _ _))

/-- The payload at an entry: the product's sum over all 2048 rows, times the product of the scales. -/
theorem pay_apply (v0 : Vec Ideal S2048x4096 .fp8e4m3) (v1 : Vec Ideal S2048x16384 .fp8e5m2) (s t : Elt Ideal .f32)
    (a : Fin 4096) (b : Fin 16384) :
    k0_pay1 (F := Ideal) v0 v1 s t (ix2 a b) = (∑ k : Fin 2048, v0 (ix2 k a) * v1 (ix2 k b)) * (s * t) := by
  pointwise [k0_pay1]

/-- A window whose block is its whole array reads the array. -/
theorem final (c : Dev nD) : (dats (F := Ideal) m 0 c).arrAt 4 cfg0.N
    = k0_pay1 (F := Ideal) (m ((c : Thread nD τ).loc main_arg0)) (m ((c : Thread nD τ).loc main_arg1))
        (m ((c : Thread nD τ).loc main_arg2) (ix1 (0 : Fin 1))) (m ((c : Thread nD τ).loc main_arg3) (ix1 (0 : Fin 1))) := by
  have ho := Cert.WgradReferenceIdeal.Value.blocks4 (F := Ideal) m c t₀ (by decide)
  have hz4 : (fun a => (win0_4.index t₀) a * main_v0.ty.shape.size a) = fun _ => 0 :=
    funext fun a => by fin_cases a <;> decide
  have hr4 := fun f => Memref.read_access_unit_zero (Elt Ideal) main_v0 hz4 (fun a => by fin_cases a <;> decide) f
  have hz0 : (fun a => (win0_0.index t₀) a * main_arg0.ty.shape.size a) = fun _ => 0 :=
    funext fun a => by fin_cases a <;> decide
  have hr0 := fun f => Memref.read_access_unit_zero (Elt Ideal) main_arg0 hz0 (fun a => by fin_cases a <;> decide) f
  have hz1 : (fun a => (win0_1.index t₀) a * main_arg1.ty.shape.size a) = fun _ => 0 :=
    funext fun a => by fin_cases a <;> decide
  have hr1 := fun f => Memref.read_access_unit_zero (Elt Ideal) main_arg1 hz1 (fun a => by fin_cases a <;> decide) f
  have hz2 : (fun a => (win0_2.index t₀) a * main_arg2.ty.shape.size a) = fun _ => 0 :=
    funext fun a => by fin_cases a <;> decide
  have hr2 := fun f => Memref.read_access_unit_zero (Elt Ideal) main_arg2 hz2 (fun a => by fin_cases a <;> decide) f
  have hz3 : (fun a => (win0_3.index t₀) a * main_arg3.ty.shape.size a) = fun _ => 0 :=
    funext fun a => by fin_cases a <;> decide
  have hr3 := fun f => Memref.read_access_unit_zero (Elt Ideal) main_arg3 hz3 (fun a => by fin_cases a <;> decide) f
  rw [hr4] at ho
  rw [ho, Cert.WgradReferenceIdeal.Value.flushed4_A, out_eq]
  unfold iblk
  rw [hr0, hr1, hr2, hr3]
  rfl

end Cert.WgradReferenceIdeal.Hand

end
-- ==== Proof.WgradAlgebra.lean ====
/-
  The equation of the weight gradient: on the same arguments the kernel and its reference end with the same result.
-/
module

public import proofs.«01_k».proof.Defs
public import proofs.«01_k».proof.Proof.WgradBlocks
public import proofs.«01_k».proof.Proof.WgradReferenceValue
public import proofs.«01_k».proof.Proof.Gen.WgradIdeal
public import proofs.«01_k».proof.Proof.Gen.WgradReferenceIdeal

@[expose] public section

set_option maxRecDepth 16384

noncomputable section

namespace Cert.Proof.WgradAlgebra

open Idealize.ShloMosaic Idealize.ShloMosaic.TcCoe Idealize.SL.Sem
open Idealize.ShloMosaic.Pointwise

/-- The reference's payload is the weight gradient of the codes at the product of the two scales. -/
theorem pay_eq (X : Vec Ideal Cert.WgradReferenceIdeal.S2048x4096 .fp8e4m3) (Y : Vec Ideal Cert.WgradReferenceIdeal.S2048x16384 .fp8e5m2)
    (s t : EReal) : Cert.WgradReferenceIdeal.Gen.k0_pay1 (F := Ideal) X Y s t = Cert.WgradIdeal.Hand.dwOf X Y (s * t) := by
  funext j
  refine (congrArg (Cert.WgradReferenceIdeal.Gen.k0_pay1 (F := Ideal) X Y s t) (eq_ix2 (n0 := 4096) (n1 := 16384) j)).trans ?_
  exact Cert.WgradReferenceIdeal.Hand.pay_apply X Y s t _ _

/-- The weight-gradient kernel computes what its reference computes. -/
theorem algebraic [hP : Cert.WgradIdeal.Facts] [hR : Cert.WgradReferenceIdeal.Facts] :
    Cert.algebraic_WgradIdeal_WgradReferenceIdeal := by
  intro m ρ m' ρ' _ hag
  refine ⟨fun c => Cert.WgradIdeal.Hand.G m c, ?_, ?_⟩
  · exact (θ_run Cert.WgradIdeal.defs _ _).mono
      (fun _ h c => ⟨(h c).1.trans (Cert.WgradIdeal.Hand.final m c), (h c).2⟩) (Cert.WgradIdeal.Value.run_blocks m ρ)
  · refine (θ_run Cert.WgradReferenceIdeal.defs _ _).mono (fun _ h c => ⟨(h c).1.trans ?_, (h c).2⟩)
      (Cert.WgradReferenceIdeal.Value.run_blocks m' ρ')
    refine (Cert.WgradReferenceIdeal.Hand.final m' c).trans ?_
    rw [(hag c).1, (hag c).2.1, (hag c).2.2.1, (hag c).2.2.2]
    exact pay_eq _ _ _ _

end Cert.Proof.WgradAlgebra

end
-- ==== Proof.lean ====
/-
  The proof of the claim: each program's runs end as stated, and the three kernels compute what
  their references say.
-/
module

public import proofs.«01_k».proof.Defs
public import proofs.«01_k».proof.Proof.Gen.Stats
public import proofs.«01_k».proof.Proof.Gen.Stats.Skeleton
public import proofs.«01_k».proof.Proof.Gen.Stats.Launch
public import proofs.«01_k».proof.Proof.Gen.Stats.Points
public import proofs.«01_k».proof.Proof.Gen.Stats.Frame
public import proofs.«01_k».proof.Proof.Gen.StatsIdeal
public import proofs.«01_k».proof.Proof.Gen.StatsIdeal.Skeleton
public import proofs.«01_k».proof.Proof.Gen.StatsIdeal.Launch
public import proofs.«01_k».proof.Proof.Gen.StatsIdeal.Points
public import proofs.«01_k».proof.Proof.Gen.StatsIdeal.Frame
public import proofs.«01_k».proof.Proof.Gen.StatsReferenceIdeal
public import proofs.«01_k».proof.Proof.Gen.StatsReferenceIdeal.Run
public import proofs.«01_k».proof.Proof.Gen.Dgrad
public import proofs.«01_k».proof.Proof.Gen.Dgrad.Skeleton
public import proofs.«01_k».proof.Proof.Gen.Dgrad.Loops
public import proofs.«01_k».proof.Proof.Gen.Dgrad.Launch
public import proofs.«01_k».proof.Proof.Gen.Dgrad.Points
public import proofs.«01_k».proof.Proof.DgradFrame.Frame
public import proofs.«01_k».proof.Proof.Gen.DgradIdeal
public import proofs.«01_k».proof.Proof.Gen.DgradIdeal.Skeleton
public import proofs.«01_k».proof.Proof.Gen.DgradIdeal.Loops
public import proofs.«01_k».proof.Proof.Gen.DgradIdeal.Launch
public import proofs.«01_k».proof.Proof.Gen.DgradIdeal.Points
public import proofs.«01_k».proof.Proof.DgradIdealFrame.Frame
public import proofs.«01_k».proof.Proof.DgradIdealFrame.Value
public import proofs.«01_k».proof.Proof.Gen.DgradReferenceIdeal
public import proofs.«01_k».proof.Proof.Gen.DgradReferenceIdeal.Skeleton
public import proofs.«01_k».proof.Proof.Gen.DgradReferenceIdeal.Launch
public import proofs.«01_k».proof.Proof.Gen.DgradReferenceIdeal.Points
public import proofs.«01_k».proof.Proof.Gen.DgradReferenceIdeal.Frame
public import proofs.«01_k».proof.Proof.Gen.DgradReferenceIdeal.Value
public import proofs.«01_k».proof.Proof.Gen.Wgrad
public import proofs.«01_k».proof.Proof.Gen.Wgrad.Skeleton
public import proofs.«01_k».proof.Proof.Gen.Wgrad.Launch
public import proofs.«01_k».proof.Proof.Gen.Wgrad.Points
public import proofs.«01_k».proof.Proof.Gen.Wgrad.Frame
public import proofs.«01_k».proof.Proof.Gen.WgradIdeal
public import proofs.«01_k».proof.Proof.Gen.WgradIdeal.Skeleton
public import proofs.«01_k».proof.Proof.Gen.WgradIdeal.Launch
public import proofs.«01_k».proof.Proof.Gen.WgradIdeal.Points
public import proofs.«01_k».proof.Proof.Gen.WgradIdeal.Frame
public import proofs.«01_k».proof.Proof.Gen.WgradIdeal.Value
public import proofs.«01_k».proof.Proof.Gen.WgradReferenceIdeal
public import proofs.«01_k».proof.Proof.Gen.WgradReferenceIdeal.Skeleton
public import proofs.«01_k».proof.Proof.Gen.WgradReferenceIdeal.Launch
public import proofs.«01_k».proof.Proof.Gen.WgradReferenceIdeal.Points
public import proofs.«01_k».proof.Proof.Gen.WgradReferenceIdeal.Frame
public import proofs.«01_k».proof.Proof.Gen.WgradReferenceIdeal.Value
public import proofs.«01_k».proof.Proof.DgradAlgebra
public import proofs.«01_k».proof.Proof.StatsAlgebra
public import proofs.«01_k».proof.Proof.WgradAlgebra
public import Idealize.ShloMosaic.Adequacy
public import Idealize.ShloMosaic.Init

@[expose] public section

noncomputable section

namespace Cert.Proof

open Idealize.ShloMosaic Idealize.SL.Sem Cert.Dgrad

theorem claim : Cert.Claim := ⟨Cert.Stats.Gen.facts, Cert.StatsIdeal.Gen.facts, Cert.StatsReferenceIdeal.Gen.facts, Cert.Dgrad.Gen.facts, Cert.DgradIdeal.Gen.facts, Cert.DgradReferenceIdeal.Gen.facts, Cert.Wgrad.Gen.facts, Cert.WgradIdeal.Gen.facts, Cert.WgradReferenceIdeal.Gen.facts,
  fun m ρ _ => Cert.Stats.Gen.frame m ρ, fun m ρ _ => Cert.StatsIdeal.Gen.frame m ρ, Cert.Proof.StatsAlgebra.frame_reference,
  fun m ρ _ => Cert.Dgrad.Gen.frame m ρ, fun m ρ _ => Cert.DgradIdeal.Gen.frame m ρ, fun m ρ _ => Cert.DgradReferenceIdeal.Gen.frame m ρ,
  fun m ρ _ => Cert.Wgrad.Gen.frame m ρ, fun m ρ _ => Cert.WgradIdeal.Gen.frame m ρ, fun m ρ _ => Cert.WgradReferenceIdeal.Gen.frame m ρ,
  trivial, Cert.Proof.StatsAlgebra.algebraic, trivial, Cert.Proof.DgradAlgebra.algebraic, trivial, Cert.Proof.WgradAlgebra.algebraic⟩

end Cert.Proof

end
